-- ==== Defs.lean ====
def Pre_Kernel [hPre_positions_name_rows : Cert.Pre_positions_name_rows.Facts] (m : (ℓ : Loc Cert.Kernel.nD Cert.Kernel.τ Cert.Kernel.sig) → Buf (Elt Bits) ℓ) : Prop :=
  ∀ c : Dev Cert.Kernel.nD,
    (Cert.Pre_positions_name_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_positions_name_rows : Cert.Pre_positions_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_positions_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_name_rows [hPre_positions_name_rows : Cert.Pre_positions_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_chunks_name_experts : Cert.Pre_chunks_name_experts.Facts] (m : (ℓ : Loc Cert.Kernel2.nD Cert.Kernel2.τ Cert.Kernel2.sig) → Buf (Elt Bits) ℓ) : Prop :=
  ∀ c : Dev Cert.Kernel2.nD,
    (Cert.Pre_chunks_name_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_chunks_name_experts : Cert.Pre_chunks_name_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_chunks_name_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_chunks_name_experts [hPre_chunks_name_experts : Cert.Pre_chunks_name_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_chunks_name_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_positions_name_rows : Cert.Pre_positions_name_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_positions_name_rows : Cert.Pre_positions_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions_name_rows [hReferenceIdeal : Cert.ReferenceIdeal.Facts] [hPre_positions_name_rows : Cert.Pre_positions_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_chunks_name_experts : Cert.Pre_chunks_name_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_chunks_name_experts : Cert.Pre_chunks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_chunks_name_experts [hReference2Ideal : Cert.Reference2Ideal.Facts] [hPre_chunks_name_experts : Cert.Pre_chunks_name_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_chunks_name_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_name_rows : Cert.Pre_positions_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.bf16_pair.Statement Cert.Kernel2Ideal.S1024x256 Cert.Kernel2Ideal.S512x256
  ∧ IdealRules.bf16_pack.Statement Cert.Kernel2Ideal.S512x256

def algebraic_Kernel2Ideal_Reference2Ideal [hKernel2Ideal : Cert.Kernel2Ideal.Facts] [hReference2Ideal : Cert.Reference2Ideal.Facts] [hPre_chunks_name_experts : Cert.Pre_chunks_name_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_positions_name_rows : Cert.Pre_positions_name_rows.Facts) (hPre_chunks_name_experts : Cert.Pre_chunks_name_experts.Facts),
    quiescent_Kernel (hKernel := hKernel) (hPre_positions_name_rows := hPre_positions_name_rows)
    ∧ quiescent_KernelIdeal (hKernelIdeal := hKernelIdeal) (hPre_positions_name_rows := hPre_positions_name_rows)
    ∧ quiescent_ReferenceIdeal (hReferenceIdeal := hReferenceIdeal)
    ∧ quiescent_ReferenceIdeal_pre_positions_name_rows (hReferenceIdeal := hReferenceIdeal) (hPre_positions_name_rows := hPre_positions_name_rows)
    ∧ quiescent_Kernel2 (hKernel2 := hKernel2) (hPre_chunks_name_experts := hPre_chunks_name_experts)
    ∧ quiescent_Kernel2Ideal (hKernel2Ideal := hKernel2Ideal) (hPre_chunks_name_experts := hPre_chunks_name_experts)
    ∧ quiescent_Reference2Ideal (hReference2Ideal := hReference2Ideal)
    ∧ quiescent_Reference2Ideal_pre_chunks_name_experts (hReference2Ideal := hReference2Ideal) (hPre_chunks_name_experts := hPre_chunks_name_experts)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_positions_name_rows := hPre_positions_name_rows)
    ∧ preserves_Kernel2_Kernel2Ideal
    ∧ algebraic_Kernel2Ideal_Reference2Ideal (hKernel2Ideal := hKernel2Ideal) (hReference2Ideal := hReference2Ideal) (hPre_chunks_name_experts := hPre_chunks_name_experts)
    ∧ preserves_Kernel3_Kernel3Ideal
    ∧ algebraic_Kernel3Ideal_Reference3Ideal (hKernel3Ideal := hKernel3Ideal) (hReference3Ideal := hReference3Ideal)
-- ==== Pre_chunks_name_experts.lean ====
abbrev S320 : Shape := ⟨1, ![320]⟩
abbrev S327680x256 : Shape := ⟨2, ![327680, 256]⟩
abbrev S64x1024x256 : Shape := ⟨3, ![64, 1024, 256]⟩
abbrev S64x256x1024 : Shape := ⟨3, ![64, 256, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : IVec S320 32) (main_arg1 : IVec S320 32) (main_arg2 : FVec F S327680x256 .bf16) (main_arg3 : FVec F S327680x256 .bf16) (main_arg4 : FVec F S64x1024x256 .f32) (main_arg5 : FVec F S64x1024x256 .f32) (main_arg6 : FVec F S64x256x1024 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  main_v4
-- ==== Pre_positions_name_rows.lean ====
abbrev S163840x256 : Shape := ⟨2, ![163840, 256]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S163840x256 32) (main_arg1 : IVec S65536 32) (main_arg2 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 163840#32
  let main_v2 : IVec S65536 32 := broadcastInDim S65536 ![] bcast_S_S65536 main_c_0
  let main_v3 : IVec S65536 1 := cmpi .slt main_arg1 main_v2
  let main_v4 : IVec S65536 1 := andi main_v1 main_v3
  let main_c_1 : IVec S_ 32 := constantI S_ 32 0#32
  let main_v5 : IVec S65536 32 := broadcastInDim S65536 ![] bcast_S_S65536 main_c_1
  let main_v6 : IVec S65536 1 := cmpi .sge main_arg2 main_v5
  let main_v7 : IVec S65536 1 := andi main_v4 main_v6
  let main_c_2 : IVec S_ 32 := constantI S_ 32 163840#32
  let main_v8 : IVec S65536 32 := broadcastInDim S65536 ![] bcast_S_S65536 main_c_2
  let main_v9 : IVec S65536 1 := cmpi .slt main_arg2 main_v8
  let main_v10 : IVec S65536 1 := andi main_v7 main_v9
  main_v10
-- ==== Kernel.lean ====
abbrev S163840x256 : Shape := ⟨2, ![163840, 256]⟩
abbrev S65536 : Shape := ⟨1, ![65536]⟩
abbrev S163840x2x128 : Shape := ⟨3, ![163840, 2, 128]⟩
abbrev S131072 : Shape := ⟨1, ![131072]⟩
abbrev S1x131072 : Shape := ⟨2, ![1, 131072]⟩
abbrev S131072x2x128 : Shape := ⟨3, ![131072, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S131072x256 : Shape := ⟨2, ![131072, 256]⟩

abbrev nBuf : Table → Nat
  | .hbm => 8
  | .local .scVector .vmem => 2
  | _ => 0

abbrev bufTy : (tb : Table) → Fin (nBuf tb) → BufTy
  | .hbm, ⟨0, _⟩ => ⟨S163840x256, .i32⟩
  | .hbm, ⟨1, _⟩ => ⟨S65536, .i32⟩
  | .hbm, ⟨2, _⟩ => ⟨S65536, .i32⟩
  | .hbm, ⟨3, _⟩ => ⟨S163840x2x128, .i32⟩
  | .hbm, ⟨4, _⟩ => ⟨S131072, .i32⟩
  | .hbm, ⟨5, _⟩ => ⟨S1x131072, .i32⟩
  | .hbm, ⟨6, _⟩ => ⟨S131072x2x128, .i32⟩
  | .hbm, ⟨7, _⟩ => ⟨S131072x256, .i32⟩
  | .local .scVector .vmem, ⟨0, _⟩ => ⟨S2x1x128, .i32⟩
  | .local .scVector .vmem, ⟨1, _⟩ => ⟨S2x128x2x128, .i32⟩
  | _, _ => ⟨S163840x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v2_scv : Ref sig .scVector := ⟨.hbm, 5, rfl⟩
abbrev main_v3_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_72_r0 : BitVec 32 := 31#32
  let v83_r0 : BitVec 1 := Scalar.cmpi .sge arg5_r0 c31_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_59_r0 : BitVec 32 := 31#32
  let v65_r0 : BitVec 1 := Scalar.cmpi .eq arg5_r0 c31_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S131072x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S131072x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S131072x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S131072x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S131072x2x128.size a)
theorem k0_off19_inb : ∀ (i : grid0.Coords) (v33_4_r0 : BitVec 32) (k0_hw5 : k0_chk5 i v33_4_r0), ∀ a, (k0_off19 i v33_4_r0) a + S128x2x128.size a ≤ S131072x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S163840x256 : Shape := ⟨2, ![163840, 256]⟩
abbrev S65536 : Shape := ⟨1, ![65536]⟩
abbrev S131072 : Shape := ⟨1, ![131072]⟩
abbrev S_ : Shape := ⟨0, ![]⟩
abbrev S131072x1 : Shape := ⟨2, ![131072, 1]⟩
abbrev S131072x256 : Shape := ⟨2, ![131072, 256]⟩

abbrev nBuf : Space → Nat
  | .hbm => 13
  | .vmem => 0
  | .smem => 0
  | _ => 0

abbrev bufTy : (tb : Table) → Fin (tcTables nBuf tb) → BufTy
  | .hbm, ⟨0, _⟩ => ⟨S163840x256, .i32⟩
  | .hbm, ⟨1, _⟩ => ⟨S65536, .i32⟩
  | .hbm, ⟨2, _⟩ => ⟨S65536, .i32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x256, .i32⟩
  | _, _ => ⟨S163840x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel2.lean ====
abbrev S320 : Shape := ⟨1, ![320]⟩
abbrev S327680x256 : Shape := ⟨2, ![327680, 256]⟩
abbrev S64x1024x256 : Shape := ⟨3, ![64, 1024, 256]⟩
abbrev S64x256x1024 : Shape := ⟨3, ![64, 256, 1024]⟩
abbrev S1024x256 : Shape := ⟨2, ![1024, 256]⟩
abbrev S1x1024x256 : Shape := ⟨3, ![1, 1024, 256]⟩
abbrev S1 : Shape := ⟨1, ![1]⟩
abbrev S1x256x1024 : Shape := ⟨3, ![1, 256, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 7
  | .vmem => 17
  | .smem => 2
  | _ => 0

abbrev bufTy : (tb : Table) → Fin (tcTables nBuf tb) → BufTy
  | .hbm, ⟨0, _⟩ => ⟨S327680x256, .bf16⟩
  | .hbm, ⟨1, _⟩ => ⟨S327680x256, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S327680x256, .bf16⟩
  | .hbm, ⟨6, _⟩ => ⟨S327680x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .smem, ⟨0, _⟩ => ⟨S320, .i32⟩
  | .local _ .smem, ⟨1, _⟩ => ⟨S320, .i32⟩
  | _, _ => ⟨S327680x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .eq v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .ne v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F]
-- ==== Reference2Ideal.lean ====
abbrev S320 : Shape := ⟨1, ![320]⟩
abbrev S327680x256 : Shape := ⟨2, ![327680, 256]⟩
abbrev S64x1024x256 : Shape := ⟨3, ![64, 1024, 256]⟩
abbrev S64x256x1024 : Shape := ⟨3, ![64, 256, 1024]⟩
abbrev S163840x2x256 : Shape := ⟨3, ![163840, 2, 256]⟩
abbrev S163840x2x1x256 : Shape := ⟨4, ![163840, 2, 1, 256]⟩
abbrev S163840x2x2x256 : Shape := ⟨4, ![163840, 2, 2, 256]⟩
abbrev S163840x1024 : Shape := ⟨2, ![163840, 1024]⟩
abbrev S320x1 : Shape := ⟨2, ![320, 1]⟩
abbrev S64 : Shape := ⟨1, ![64]⟩
abbrev S1x64 : Shape := ⟨2, ![1, 64]⟩
abbrev S320x64 : Shape := ⟨2, ![320, 64]⟩
abbrev S_ : Shape := ⟨0, ![]⟩
abbrev S320x1x64 : Shape := ⟨3, ![320, 1, 64]⟩
abbrev S320x512x64 : Shape := ⟨3, ![320, 512, 64]⟩
abbrev S163840x64 : Shape := ⟨2, ![163840, 64]⟩
abbrev S64x256x163840 : Shape := ⟨3, ![64, 256, 163840]⟩
abbrev S64x163840x256 : Shape := ⟨3, ![64, 163840, 256]⟩
abbrev S64x163840 : Shape := ⟨2, ![64, 163840]⟩
abbrev S64x163840x1 : Shape := ⟨3, ![64, 163840, 1]⟩
abbrev S64x163840x1024 : Shape := ⟨3, ![64, 163840, 1024]⟩

abbrev nBuf : Space → Nat
  | .hbm => 61
  | .vmem => 0
  | .smem => 0
  | _ => 0

abbrev bufTy : (tb : Table) → Fin (tcTables nBuf tb) → BufTy
  | .hbm, ⟨0, _⟩ => ⟨S320, .i32⟩
  | .hbm, ⟨1, _⟩ => ⟨S320, .i32⟩
  | .hbm, ⟨2, _⟩ => ⟨S327680x256, .bf16⟩
  | .hbm, ⟨3, _⟩ => ⟨S327680x256, .bf16⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S327680x256, .f32⟩
  | .hbm, ⟨8, _⟩ => ⟨S163840x2x256, .f32⟩
  | .hbm, ⟨9, _⟩ => ⟨S327680x256, .f32⟩
  | .hbm, ⟨10, _⟩ => ⟨S163840x2x256, .f32⟩
  | .hbm, ⟨11, _⟩ => ⟨S163840x2x1x256, .f32⟩
  | .hbm, ⟨12, _⟩ => ⟨S163840x2x1x256, .f32⟩
  | .hbm, ⟨13, _⟩ => ⟨S163840x2x2x256, .f32⟩
  | .hbm, ⟨14, _⟩ => ⟨S163840x1024, .f32⟩
  | .hbm, ⟨15, _⟩ => ⟨S320x1, .i32⟩
  | .hbm, ⟨16, _⟩ => ⟨S64, .i32⟩
  | .hbm, ⟨17, _⟩ => ⟨S1x64, .i32⟩
  | .hbm, ⟨18, _⟩ => ⟨S320x64, .i32⟩
  | .hbm, ⟨19, _⟩ => ⟨S320x64, .i32⟩
  | .hbm, ⟨20, _⟩ => ⟨S320x64, .i1⟩
  | .hbm, ⟨21, _⟩ => ⟨S_, .i32⟩
  | .hbm, ⟨22, _⟩ => ⟨S320, .i32⟩
  | .hbm, ⟨23, _⟩ => ⟨S320, .i1⟩
  | .hbm, ⟨24, _⟩ => ⟨S320x1, .i1⟩
  | .hbm, ⟨25, _⟩ => ⟨S320x64, .i1⟩
  | .hbm, ⟨26, _⟩ => ⟨S320x64, .i1⟩
  | .hbm, ⟨27, _⟩ => ⟨S320x1x64, .i1⟩
  | .hbm, ⟨28, _⟩ => ⟨S320x512x64, .i1⟩
  | .hbm, ⟨29, _⟩ => ⟨S163840x64, .i1⟩
  | .hbm, ⟨30, _⟩ => ⟨S163840x64, .f32⟩
  | .hbm, ⟨31, _⟩ => ⟨S64x256x163840, .f32⟩
  | .hbm, ⟨32, _⟩ => ⟨S64x163840x256, .f32⟩
  | .hbm, ⟨33, _⟩ => ⟨S64x163840x256, .f32⟩
  | .hbm, ⟨34, _⟩ => ⟨S64x163840x256, .f32⟩
  | .hbm, ⟨35, _⟩ => ⟨S_, .f32⟩
  | .hbm, ⟨36, _⟩ => ⟨S64x163840x256, .f32⟩
  | .hbm, ⟨37, _⟩ => ⟨S64x163840x256, .f32⟩
  | .hbm, ⟨38, _⟩ => ⟨S_, .f32⟩
  | .hbm, ⟨39, _⟩ => ⟨S64x163840x256, .f32⟩
  | .hbm, ⟨40, _⟩ => ⟨S64x163840x256, .f32⟩
  | .hbm, ⟨41, _⟩ => ⟨S64x163840x256, .f32⟩
  | .hbm, ⟨42, _⟩ => ⟨S64x256x163840, .f32⟩
  | .hbm, ⟨43, _⟩ => ⟨S64x163840x256, .f32⟩
  | .hbm, ⟨44, _⟩ => ⟨S64x163840x256, .f32⟩
  | .hbm, ⟨45, _⟩ => ⟨S64x163840, .f32⟩
  | .hbm, ⟨46, _⟩ => ⟨S64x163840x1, .f32⟩
  | .hbm, ⟨47, _⟩ => ⟨S64x163840x1024, .f32⟩
  | .hbm, ⟨48, _⟩ => ⟨S64x163840x1024, .f32⟩
  | .hbm, ⟨49, _⟩ => ⟨S64x163840x1024, .f32⟩
  | .hbm, ⟨50, _⟩ => ⟨S_, .f32⟩
  | .hbm, ⟨51, _⟩ => ⟨S163840x1024, .f32⟩
  | .hbm, ⟨52, _⟩ => ⟨S163840x2x2x256, .f32⟩
  | .hbm, ⟨53, _⟩ => ⟨S163840x2x1x256, .f32⟩
  | .hbm, ⟨54, _⟩ => ⟨S163840x2x256, .f32⟩
  | .hbm, ⟨55, _⟩ => ⟨S327680x256, .f32⟩
  | .hbm, ⟨56, _⟩ => ⟨S327680x256, .bf16⟩
  | .hbm, ⟨57, _⟩ => ⟨S163840x2x1x256, .f32⟩
  | .hbm, ⟨58, _⟩ => ⟨S163840x2x256, .f32⟩
  | .hbm, ⟨59, _⟩ => ⟨S327680x256, .f32⟩
  | .hbm, ⟨60, _⟩ => ⟨S327680x256, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel3.lean ====
abbrev S65536x1024 : Shape := ⟨2, ![65536, 1024]⟩
abbrev S131072x256 : Shape := ⟨2, ![131072, 256]⟩
abbrev S65536x128 : Shape := ⟨2, ![65536, 128]⟩
abbrev S1024 : Shape := ⟨1, ![1024]⟩
abbrev S2x65536x256 : Shape := ⟨3, ![2, 65536, 256]⟩
abbrev S1x1024 : Shape := ⟨2, ![1, 1024]⟩
abbrev S1024x1024 : Shape := ⟨2, ![1024, 1024]⟩
abbrev S1x1024x256 : Shape := ⟨3, ![1, 1024, 256]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S131072x256, .i32⟩
  | .hbm, ⟨2, _⟩ => ⟨S131072x256, .i32⟩
  | .hbm, ⟨3, _⟩ => ⟨S65536x128, .f32⟩
  | .hbm, ⟨4, _⟩ => ⟨S1024, .f32⟩
  | .hbm, ⟨5, _⟩ => ⟨S2x65536x256, .i32⟩
  | .hbm, ⟨6, _⟩ => ⟨S2x65536x256, .i32⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .i32⟩
  | .local _ .vmem, ⟨3, _⟩ => ⟨S1x1024x256, .i32⟩
  | .local _ .vmem, ⟨4, _⟩ => ⟨S1x1024x256, .i32⟩
  | .local _ .vmem, ⟨5, _⟩ => ⟨S1x1024x256, .i32⟩
  | .local _ .vmem, ⟨6, _⟩ => ⟨S1x1024x256, .i32⟩
  | .local _ .vmem, ⟨7, _⟩ => ⟨S1x1024x256, .i32⟩
  | .local _ .vmem, ⟨8, _⟩ => ⟨S1x1024x256, .i32⟩
  | .local _ .vmem, ⟨9, _⟩ => ⟨S1x1024x256, .i32⟩
  | .local _ .vmem, ⟨10, _⟩ => ⟨S1024x128, .f32⟩
  | .local _ .vmem, ⟨11, _⟩ => ⟨S1024x128, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S65536x1024 : Shape := ⟨2, ![65536, 1024]⟩
abbrev S131072x256 : Shape := ⟨2, ![131072, 256]⟩
abbrev S65536x128 : Shape := ⟨2, ![65536, 128]⟩
abbrev S1024 : Shape := ⟨1, ![1024]⟩
abbrev S131072x1x256 : Shape := ⟨3, ![131072, 1, 256]⟩
abbrev S131072x2x256 : Shape := ⟨3, ![131072, 2, 256]⟩
abbrev S131072x2x256x2 : Shape := ⟨4, ![131072, 2, 256, 2]⟩
abbrev S131072x2x2x256 : Shape := ⟨4, ![131072, 2, 2, 256]⟩
abbrev S2x65536x1024 : Shape := ⟨3, ![2, 65536, 1024]⟩
abbrev S1x65536x1024 : Shape := ⟨3, ![1, 65536, 1024]⟩
abbrev S65536x1 : Shape := ⟨2, ![65536, 1]⟩
abbrev S_ : Shape := ⟨0, ![]⟩
abbrev S65536 : Shape := ⟨1, ![65536]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S131072x256, .i32⟩
  | .hbm, ⟨2, _⟩ => ⟨S131072x256, .i32⟩
  | .hbm, ⟨3, _⟩ => ⟨S65536x128, .f32⟩
  | .hbm, ⟨4, _⟩ => ⟨S1024, .f32⟩
  | .hbm, ⟨5, _⟩ => ⟨S131072x1x256, .i32⟩
  | .hbm, ⟨6, _⟩ => ⟨S131072x1x256, .i32⟩
  | .hbm, ⟨7, _⟩ => ⟨S131072x2x256, .i32⟩
  | .hbm, ⟨8, _⟩ => ⟨S131072x2x256x2, .bf16⟩
  | .hbm, ⟨9, _⟩ => ⟨S131072x2x256x2, .f32⟩
  | .hbm, ⟨10, _⟩ => ⟨S131072x2x2x256, .f32⟩
  | .hbm, ⟨11, _⟩ => ⟨S2x65536x1024, .f32⟩
  | .hbm, ⟨12, _⟩ => ⟨S1x65536x1024, .f32⟩
  | .hbm, ⟨13, _⟩ => ⟨S65536x1024, .f32⟩
  | .hbm, ⟨14, _⟩ => ⟨S1x65536x1024, .f32⟩
  | .hbm, ⟨15, _⟩ => ⟨S65536x1024, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Words.lean ====
/- The words the gather's pipeline carries round its loop, and what the printed offsets and conditions are at them. A worker
   `L` (a vector subcore of a SparseCore) goes through 32 blocks of 128 positions; trip `k` asks for block `k + 1`'s positions,
   waits for block `k`'s, gathers block `k`'s rows, sends them out and waits for block `k - 1`'s to have left. -/
module

public import proofs.«01_k».proof.Defs
public import proofs.«01_k».proof.Proof.Gen.Kernel
public import proofs.«01_k».proof.Proof.Gen.Kernel.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import Idealize.ShloMosaic.Lib.ViewIndex

@[expose] public section

noncomputable section

namespace Cert.Proof.Gather

open Idealize.ShloMosaic Cert.Kernel Cert.Kernel.Gen

/-- The worker's number, SparseCore by SparseCore. -/
def wk (L : grid0.Coords) : ℕ := 16 * (L 0).val + (L 1).val
/-- The number of the worker's block `k` among all 1024. -/
def blk (L : grid0.Coords) (k : ℕ) : ℕ := (32 * wk L + k) % 1024

theorem wk_lt : ∀ L : grid0.Coords, wk L < 32 := by decide +kernel
theorem blk_lt (L : grid0.Coords) (k : ℕ) : blk L k < 1024 := Nat.mod_lt _ (by decide)
theorem blk_eq (L : grid0.Coords) {k : ℕ} (h : k < 32) : blk L k = 32 * wk L + k := by
  have := wk_lt L
  unfold blk; omega

/-- The five carried words before trip `k`. -/
def w6 (k : ℕ) : BitVec 32 := BitVec.ofNat 32 (min (k + 1) 32)
def w7 (k : ℕ) : BitVec 32 := BitVec.ofNat 32 k
def w9 (k : ℕ) : BitVec 32 := BitVec.ofNat 32 (k - 1)
def w10 (k : ℕ) : BitVec 32 := BitVec.ofNat 32 (k % 32)
/-- The worker's first block, as the body computes it. -/
def v4 (L : grid0.Coords) : BitVec 32 :=
  Scalar.muli (Scalar.addi (Scalar.addi 0#32 (Scalar.muli (BitVec.ofNat 32 (L 1).val) 1#32)) (Scalar.muli (BitVec.ofNat 32 (L 0).val) 16#32)) 32#32

theorem cond1 : ∀ (L : grid0.Coords) (k : Fin k0_t1_loop.trips), k0_cond1 L k (w10 k.val) = 1#1 ↔ k.val < 31 := by decide +kernel
theorem cond2 : ∀ (L : grid0.Coords) (k : Fin k0_t1_loop.trips), k0_cond2 L k (w10 k.val) = 1#1 := by decide +kernel
theorem cond5 : ∀ (L : grid0.Coords) (k : Fin k0_t1_loop.trips), k0_cond5 L k (w10 k.val) = 1#1 := by decide +kernel
theorem cond7 : ∀ (L : grid0.Coords) (k : Fin k0_t1_loop.trips), k0_cond7 L k (w10 k.val) = 1#1 ↔ 0 < k.val := by decide +kernel

theorem off4 : ∀ k : Fin k0_t1_loop.trips, k.val < 31 → k0_off4 (w6 k.val) = ![(Ring.sl 2 (k.val + 1)).val, 0, 0] := by decide +kernel
theorem off5 : ∀ (L : grid0.Coords) (k : Fin k0_t1_loop.trips), k.val < 31 → k0_off5 L (w10 k.val) = ![0, 128 * blk L (k.val + 1)] := by decide +kernel
theorem off6 : ∀ k : Fin k0_t1_loop.trips, k.val < 31 → k0_off6 (w6 k.val) = ![(Ring.sl 2 (k.val + 1)).val] := by decide +kernel
theorem off7 : ∀ k : Fin k0_t1_loop.trips, k0_off7 (w7 k.val) = ![(Ring.sl 2 k.val).val, 0, 0] := by decide +kernel
theorem off8 : ∀ (L : grid0.Coords) (k : Fin k0_t1_loop.trips), k0_off8 L (w10 k.val) = ![0, 128 * blk L k.val] := by decide +kernel
theorem off9 : ∀ k : Fin k0_t1_loop.trips, k0_off9 (w7 k.val) = ![(Ring.sl 2 k.val).val] := by decide +kernel
theorem off10 : ∀ k : Fin k0_t1_loop.trips, k0_off10 (w7 k.val) = ![(Ring.sl 2 k.val).val, 0, 0, 0] := by decide +kernel
theorem off11 : ∀ k : Fin k0_t1_loop.trips, k0_off11 (w7 k.val) = ![(Ring.sl 2 k.val).val, 0, 0] := by decide +kernel
theorem off12 : ∀ k : Fin k0_t1_loop.trips, k0_off12 (w7 k.val) = ![(Ring.sl 2 k.val).val, 0, 0, 0] := by decide +kernel
theorem off13 : ∀ (L : grid0.Coords) (k : Fin k0_t1_loop.trips), k0_off13 L (w10 k.val) = ![128 * blk L k.val, 0, 0] := by decide +kernel
theorem off14 : ∀ k : Fin k0_t1_loop.trips, k0_off14 (w7 k.val) = ![(Ring.sl 2 k.val).val] := by decide +kernel
theorem off15 : ∀ k : Fin k0_t1_loop.trips, 0 < k.val → k0_off15 (w9 k.val) = ![(Ring.sl 2 (k.val + 1)).val, 0, 0, 0] := by decide +kernel
theorem off16 : ∀ (L : grid0.Coords) (k : Fin k0_t1_loop.trips), 0 < k.val → k0_off16 L (w10 k.val) = ![128 * blk L (k.val - 1), 0, 0] := by decide +kernel
theorem off17 : ∀ k : Fin k0_t1_loop.trips, 0 < k.val → k0_off17 (w9 k.val) = ![(Ring.sl 2 (k.val + 1)).val] := by decide +kernel
theorem off19 : ∀ L : grid0.Coords, k0_off19 L (w10 32) = ![128 * blk L 31, 0, 0] := by decide +kernel
theorem off20 : k0_off20 (w9 32) = ![(Ring.sl 2 31).val] := by decide +kernel
theorem off21 : k0_off21 (w9 32) = ![(Ring.sl 2 31).val, 0, 0, 0] := by decide +kernel

theorem chk1 : ∀ (L : grid0.Coords) (k : Fin k0_t1_loop.trips), k0_chk1 L k (w6 k.val) (w7 k.val) (w7 k.val) (w9 k.val) (w10 k.val) := by decide +kernel
theorem chk2 : ∀ k : Fin k0_t1_loop.trips, k0_chk2 (w7 k.val) := by decide +kernel
theorem chk3 : ∀ k : Fin k0_t1_loop.trips, k0_chk3 (w7 k.val) := by decide +kernel
theorem chk4 : k0_chk4 (w9 32) := by decide +kernel
theorem chk5 : ∀ L : grid0.Coords, k0_chk5 L (w10 32) := by decide +kernel

end Cert.Proof.Gather

end
-- ==== Proof.Slots.lean ====
/- The pieces of memory the gather's workers address: the two position slots and the two row slots of a worker's own memory,
   the blocks of positions it reads and the blocks of rows it writes, by block number, and the semaphores it counts them on. -/
module

public import proofs.«01_k».proof.Proof.Words

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the worker -/

abbrev yLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

abbrev yV : Memref sig .scVector .hbm S163840x2x128 .i32 := Memref.whole main_v0_scv
abbrev iV : Memref sig .scVector .hbm S1x131072 .i32 := Memref.whole main_v2_scv
abbrev oV : Memref sig .scVector .hbm S131072x2x128 .i32 := Memref.whole main_v3_scv
abbrev sV : Memref sig .scVector .vmem S2x1x128 .i32 := Memref.whole cc0_scoped0
abbrev rV : Memref sig .scVector .vmem S2x128x2x128 .i32 := Memref.whole cc0_scoped2

abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

/-! ## The slots, the blocks and the semaphores -/

theorem inb_idx (p : Fin 2) : ∀ a, (![p.val, 0, 0] : Fin 3 → Nat) a + S1x1x128.size a ≤ S2x1x128.size a := by
  have := p.isLt; intro a; fin_cases a <;> simp <;> omega
theorem inb_row (p : Fin 2) : ∀ a, (![p.val, 0, 0, 0] : Fin 4 → Nat) a + S1x128x2x128.size a ≤ S2x128x2x128.size a := by
  have := p.isLt; intro a; fin_cases a <;> simp <;> omega
theorem inb_sem (p : Fin 2) : ∀ a, (![p.val] : Fin 1 → Nat) a + S1.size a ≤ S2.size a := by
  have := p.isLt; intro a; fin_cases a; simp; omega
theorem inb_src (L : grid0.Coords) (k : ℕ) : ∀ a, (![0, 128 * blk L k] : Fin 2 → Nat) a + S1x128.size a ≤ S1x131072.size a := by
  have := blk_lt L k; intro a; fin_cases a <;> simp <;> omega
theorem inb_out (L : grid0.Coords) (k : ℕ) : ∀ a, (![128 * blk L k, 0, 0] : Fin 3 → Nat) a + S128x2x128.size a ≤ S131072x2x128.size a := by
  have := blk_lt L k; intro a; fin_cases a <;> simp <;> omega

/-- Position slot `p`, and the list the gather reads there. -/
def idxM (p : Fin 2) : Memref sig .scVector .vmem S1x128 .i32 :=
  (sV.slice (Rect.unit (s := S2x1x128) ![p.val, 0, 0] S1x1x128.size (inb_idx p)) (fun _ => rfl)).squeeze S1x128 squeezes_S1x1x128_S1x128
def lstM (p : Fin 2) : Memref sig .scVector .vmem S128 .i32 :=
  ((idxM p).slice (Rect.unit (s := S1x128) ![0, 0] S1x128.size inb_S1x128_S1x128_0_0) (fun _ => rfl)).squeeze S128 squeezes_S1x128_S128
/-- Row slot `p`. -/
def rowM (p : Fin 2) : Memref sig .scVector .vmem S128x2x128 .i32 :=
  (rV.slice (Rect.unit (s := S2x128x2x128) ![p.val, 0, 0, 0] S1x128x2x128.size (inb_row p)) (fun _ => rfl)).squeeze S128x2x128 squeezes_S1x128x2x128_S128x2x128
/-- Block `k` of the worker's positions, and of its rows. -/
def srcM (L : grid0.Coords) (k : ℕ) : Memref sig .scVector .hbm S1x128 .i32 :=
  iV.slice (Rect.unit (s := S1x131072) ![0, 128 * blk L k] S1x128.size (inb_src L k)) (fun _ => rfl)
def outM (L : grid0.Coords) (k : ℕ) : Memref sig .scVector .hbm S128x2x128 .i32 :=
  oV.slice (Rect.unit (s := S131072x2x128) ![128 * blk L k, 0, 0] S128x2x128.size (inb_out L k)) (fun _ => rfl)
/-- All of the table. -/
def tabM : Memref sig .scVector .hbm S163840x2x128 .i32 :=
  yV.slice (Rect.unit (s := S163840x2x128) ![0, 0, 0] S163840x2x128.size inb_S163840x2x128_S163840x2x128_0_0_0) (fun _ => rfl)
/-- What position slot `p`'s arrivals are counted on, and row slot `p`'s departures. -/
def inA (p : Fin 2) : DmaSems sig S_ := (cc0_scoped1.slice (Rect.unit (s := S2) ![p.val] S1.size (inb_sem p))).squeeze S_ squeezes_S1_S_
def outA (p : Fin 2) : DmaSems sig S_ := (cc0_scoped3.slice (Rect.unit (s := S2) ![p.val] S1.size (inb_sem p))).squeeze S_ squeezes_S1_S_

/-! ## The printed operands are these -/

section Canon

variable (L : grid0.Coords) (k : Fin k0_t1_loop.trips)

theorem idx_eq {off : Fin 3 → Nat} {p : Fin 2} (h : off = ![p.val, 0, 0]) (inb) :
    (sV.slice (Rect.unit (s := S2x1x128) off S1x1x128.size inb) (fun _ => rfl)).squeeze S1x128 squeezes_S1x1x128_S1x128 = idxM p :=
  congrArg (fun M : Memref sig .scVector .vmem S1x1x128 .i32 => M.squeeze S1x128 squeezes_S1x1x128_S1x128)
    (Memref.slice_unit_congr _ h _ _ (fun _ => rfl) (fun _ => rfl))
theorem row_eq {off : Fin 4 → Nat} {p : Fin 2} (h : off = ![p.val, 0, 0, 0]) (inb) :
    (rV.slice (Rect.unit (s := S2x128x2x128) off S1x128x2x128.size inb) (fun _ => rfl)).squeeze S128x2x128 squeezes_S1x128x2x128_S128x2x128 = rowM p :=
  congrArg (fun M : Memref sig .scVector .vmem S1x128x2x128 .i32 => M.squeeze S128x2x128 squeezes_S1x128x2x128_S128x2x128)
    (Memref.slice_unit_congr _ h _ _ (fun _ => rfl) (fun _ => rfl))
theorem in_eq {off : Fin 1 → Nat} {p : Fin 2} (h : off = ![p.val]) (inb) :
    (cc0_scoped1.slice (Rect.unit (s := S2) off S1.size inb)).squeeze S_ squeezes_S1_S_ = inA p :=
  congrArg (fun A : DmaSems sig S1 => A.squeeze S_ squeezes_S1_S_) (SemArray.slice_unit_congr _ h _ _)
theorem out_eq {off : Fin 1 → Nat} {p : Fin 2} (h : off = ![p.val]) (inb) :
    (cc0_scoped3.slice (Rect.unit (s := S2) off S1.size inb)).squeeze S_ squeezes_S1_S_ = outA p :=
  congrArg (fun A : DmaSems sig S1 => A.squeeze S_ squeezes_S1_S_) (SemArray.slice_unit_congr _ h _ _)
theorem src_eq {off : Fin 2 → Nat} {j : ℕ} (h : off = ![0, 128 * blk L j]) (inb) :
    iV.slice (Rect.unit (s := S1x131072) off S1x128.size inb) (fun _ => rfl) = srcM L j :=
  Memref.slice_unit_congr _ h _ _ (fun _ => rfl) (fun _ => rfl)
theorem dst_eq {off : Fin 3 → Nat} {j : ℕ} (h : off = ![128 * blk L j, 0, 0]) (inb) :
    oV.slice (Rect.unit (s := S131072x2x128) off S128x2x128.size inb) (fun _ => rfl) = outM L j :=
  Memref.slice_unit_congr _ h _ _ (fun _ => rfl) (fun _ => rfl)

@[sl_canon] theorem c_off1 : (sV.slice (Rect.unit (s := S2x1x128) k0_off1 S1x1x128.size k0_off1_inb) (fun _ => rfl)).squeeze S1x128 squeezes_S1x1x128_S1x128 = idxM (Ring.sl 2 0) := idx_eq k0_off1_eq _
@[sl_canon] theorem c_off2 : iV.slice (Rect.unit (s := S1x131072) (k0_off2 L) S1x128.size (k0_off2_inb L)) (fun _ => rfl) = srcM L 0 :=
  src_eq L (by have := wk_lt L; rw [k0_off2_eq, blk_eq L (by decide)]; unfold wk; congr 2; omega) _
@[sl_canon] theorem c_off3 : (cc0_scoped1.slice (Rect.unit (s := S2) k0_off3 S1.size k0_off3_inb)).squeeze S_ squeezes_S1_S_ = inA (Ring.sl 2 0) := in_eq k0_off3_eq _

theorem c_off4 (h : k.val < 31) (inb) : (sV.slice (Rect.unit (s := S2x1x128) (k0_off4 (w6 k.val)) S1x1x128.size inb) (fun _ => rfl)).squeeze S1x128 squeezes_S1x1x128_S1x128 = idxM (Ring.sl 2 (k.val + 1)) := idx_eq (off4 k h) _
theorem c_off5 (h : k.val < 31) (inb) : iV.slice (Rect.unit (s := S1x131072) (k0_off5 L (w10 k.val)) S1x128.size inb) (fun _ => rfl) = srcM L (k.val + 1) := src_eq L (off5 L k h) _
theorem c_off6 (h : k.val < 31) (inb) : (cc0_scoped1.slice (Rect.unit (s := S2) (k0_off6 (w6 k.val)) S1.size inb)).squeeze S_ squeezes_S1_S_ = inA (Ring.sl 2 (k.val + 1)) := in_eq (off6 k h) _
theorem c_off7 (inb) : (sV.slice (Rect.unit (s := S2x1x128) (k0_off7 (w7 k.val)) S1x1x128.size inb) (fun _ => rfl)).squeeze S1x128 squeezes_S1x1x128_S1x128 = idxM (Ring.sl 2 k.val) := idx_eq (off7 k) _
theorem c_off8 (inb) : iV.slice (Rect.unit (s := S1x131072) (k0_off8 L (w10 k.val)) S1x128.size inb) (fun _ => rfl) = srcM L k.val := src_eq L (off8 L k) _
theorem c_off9 (inb) : (cc0_scoped1.slice (Rect.unit (s := S2) (k0_off9 (w7 k.val)) S1.size inb)).squeeze S_ squeezes_S1_S_ = inA (Ring.sl 2 k.val) := in_eq (off9 k) _
theorem c_off10 (inb) : (rV.slice (Rect.unit (s := S2x128x2x128) (k0_off10 (w7 k.val)) S1x128x2x128.size inb) (fun _ => rfl)).squeeze S128x2x128 squeezes_S1x128x2x128_S128x2x128 = rowM (Ring.sl 2 k.val) := row_eq (off10 k) _
theorem c_off11 (inb) : (sV.slice (Rect.unit (s := S2x1x128) (k0_off11 (w7 k.val)) S1x1x128.size inb) (fun _ => rfl)).squeeze S1x128 squeezes_S1x1x128_S1x128 = idxM (Ring.sl 2 k.val) := idx_eq (off11 k) _
theorem c_off12 (inb) : (rV.slice (Rect.unit (s := S2x128x2x128) (k0_off12 (w7 k.val)) S1x128x2x128.size inb) (fun _ => rfl)).squeeze S128x2x128 squeezes_S1x128x2x128_S128x2x128 = rowM (Ring.sl 2 k.val) := row_eq (off12 k) _
theorem c_off13 (inb) : oV.slice (Rect.unit (s := S131072x2x128) (k0_off13 L (w10 k.val)) S128x2x128.size inb) (fun _ => rfl) = outM L k.val := dst_eq L (off13 L k) _
theorem c_off14 (inb) : (cc0_scoped3.slice (Rect.unit (s := S2) (k0_off14 (w7 k.val)) S1.size inb)).squeeze S_ squeezes_S1_S_ = outA (Ring.sl 2 k.val) := out_eq (off14 k) _
theorem c_off15 (h : 0 < k.val) (inb) : (rV.slice (Rect.unit (s := S2x128x2x128) (k0_off15 (w9 k.val)) S1x128x2x128.size inb) (fun _ => rfl)).squeeze S128x2x128 squeezes_S1x128x2x128_S128x2x128 = rowM (Ring.sl 2 (k.val + 1)) := row_eq (off15 k h) _
theorem c_off16 (h : 0 < k.val) (inb) : oV.slice (Rect.unit (s := S131072x2x128) (k0_off16 L (w10 k.val)) S128x2x128.size inb) (fun _ => rfl) = outM L (k.val - 1) := dst_eq L (off16 L k h) _
theorem c_off17 (h : 0 < k.val) (inb) : (cc0_scoped3.slice (Rect.unit (s := S2) (k0_off17 (w9 k.val)) S1.size inb)).squeeze S_ squeezes_S1_S_ = outA (Ring.sl 2 (k.val + 1)) := out_eq (off17 k h) _
theorem c_off19 (inb) : oV.slice (Rect.unit (s := S131072x2x128) (k0_off19 L (w10 32)) S128x2x128.size inb) (fun _ => rfl) = outM L 31 := dst_eq L (off19 L) _
theorem c_off20 (inb) : (cc0_scoped3.slice (Rect.unit (s := S2) (k0_off20 (w9 32)) S1.size inb)).squeeze S_ squeezes_S1_S_ = outA (Ring.sl 2 31) := out_eq off20 _
theorem c_off21 (inb) : (rV.slice (Rect.unit (s := S2x128x2x128) (k0_off21 (w9 32)) S1x128x2x128.size inb) (fun _ => rfl)).squeeze S128x2x128 squeezes_S1x128x2x128_S128x2x128 = rowM (Ring.sl 2 31) := row_eq off21 _
theorem c_lst (p : Fin 2) : ((idxM p).slice (Rect.unit (s := S1x128) ![0, 0] S1x128.size inb_S1x128_S1x128_0_0) (fun _ => rfl)).squeeze S128 squeezes_S1x128_S128 = lstM p := rfl
theorem c_tab : yV.slice (Rect.unit (s := S163840x2x128) ![0, 0, 0] S163840x2x128.size inb_S163840x2x128_S163840x2x128_0_0_0) (fun _ => rfl) = tabM := rfl

end Canon

/-! ## The elements they cover -/

abbrev idxSet (p : Fin 2) : Finset S2x1x128.Idx := (Rect.unit (s := S2x1x128) ![p.val, 0, 0] S1x1x128.size (inb_idx p)).set
abbrev rowSet (p : Fin 2) : Finset S2x128x2x128.Idx := (Rect.unit (s := S2x128x2x128) ![p.val, 0, 0, 0] S1x128x2x128.size (inb_row p)).set

theorem idxM_set (p : Fin 2) : (idxM p).view.set = idxSet p := by
  simp only [idxM, Memref.view_squeeze, View.set_reshape]; exact View.set_slice_whole _ _
theorem rowM_set (p : Fin 2) : (rowM p).view.set = rowSet p := by
  simp only [rowM, Memref.view_squeeze, View.set_reshape]; exact View.set_slice_whole _ _
theorem tabM_set : tabM.view.set = Finset.univ := by
  refine (View.set_slice_whole _ _).trans ?_
  refine Finset.eq_univ_of_forall fun j => Rect.mem_set_unit.mpr fun a => ?_
  match a with
  | ⟨0, _⟩ => exact ⟨Nat.zero_le _, (j 0).isLt.trans_eq (Nat.zero_add _).symm⟩
  | ⟨1, _⟩ => exact ⟨Nat.zero_le _, (j 1).isLt.trans_eq (Nat.zero_add _).symm⟩
  | ⟨2, _⟩ => exact ⟨Nat.zero_le _, (j 2).isLt.trans_eq (Nat.zero_add _).symm⟩
theorem lstM_set (p : Fin 2) : (lstM p).view.set = idxSet p := by
  rw [← idxM_set]
  simp only [lstM, Memref.view_squeeze, View.set_reshape]
  refine (View.set_slice (idxM p).view _).trans ?_
  rw [show (Rect.unit (s := S1x128) ![0, 0] S1x128.size inb_S1x128_S1x128_0_0).set = Finset.univ from ?_]
  · rfl
  refine Finset.eq_univ_of_forall fun j => Rect.mem_set_unit.mpr fun a => ?_
  match a with
  | ⟨0, _⟩ => exact ⟨Nat.zero_le _, (j 0).isLt.trans_eq (Nat.zero_add _).symm⟩
  | ⟨1, _⟩ => exact ⟨Nat.zero_le _, (j 1).isLt.trans_eq (Nat.zero_add _).symm⟩

theorem idx_disjoint (p p' : Fin 2) (h : p ≠ p') : Disjoint (idxSet p) (idxSet p') :=
  Ring.lead_disjoint (s := S2x1x128) (0 : Fin 3) 1 (fun p : Fin 2 => (![p.val, 0, 0] : Fin 3 → Nat)) S1x1x128.size inb_idx (fun p => by simp) rfl p p' h
theorem idx_cover : Finset.univ.biUnion idxSet = Finset.univ :=
  Ring.lead_cover (s := S2x1x128) (0 : Fin 3) 1 (fun p : Fin 2 => (![p.val, 0, 0] : Fin 3 → Nat)) S1x1x128.size inb_idx (fun p => by simp)
    (fun p a ha => by fin_cases a <;> first | exact absurd rfl ha | rfl) rfl (fun a ha => by fin_cases a <;> first | exact absurd rfl ha | rfl) rfl
theorem row_disjoint (p p' : Fin 2) (h : p ≠ p') : Disjoint (rowSet p) (rowSet p') :=
  Ring.lead_disjoint (s := S2x128x2x128) (0 : Fin 4) 1 (fun p : Fin 2 => (![p.val, 0, 0, 0] : Fin 4 → Nat)) S1x128x2x128.size inb_row (fun p => by simp) rfl p p' h
theorem row_cover : Finset.univ.biUnion rowSet = Finset.univ :=
  Ring.lead_cover (s := S2x128x2x128) (0 : Fin 4) 1 (fun p : Fin 2 => (![p.val, 0, 0, 0] : Fin 4 → Nat)) S1x128x2x128.size inb_row (fun p => by simp)
    (fun p a ha => by fin_cases a <;> first | exact absurd rfl ha | rfl) rfl (fun a ha => by fin_cases a <;> first | exact absurd rfl ha | rfl) rfl

/-- The rows of the worker's blocks from `a` up to `b`. -/
def span (L : grid0.Coords) (a b : ℕ) : Finset S131072x2x128.Idx :=
  Finset.univ.filter fun j => 32 * wk L + a ≤ (j 0).val / 128 ∧ (j 0).val / 128 < 32 * wk L + b

theorem outM_set (L : grid0.Coords) {k : ℕ} (h : k < 32) : (outM L k).view.set = span L k (k + 1) := by
  refine (View.set_slice_whole _ _).trans ?_
  ext j
  simp only [Rect.mem_set_unit, span, Finset.mem_filter, Finset.mem_univ, true_and]
  rw [blk_eq L h]
  constructor
  · intro hj
    have := hj 0
    simp at this
    omega
  · intro hj a
    fin_cases a
    · simp; omega
    · exact ⟨Nat.zero_le _, (j 1).isLt.trans_eq (Nat.zero_add _).symm⟩
    · exact ⟨Nat.zero_le _, (j 2).isLt.trans_eq (Nat.zero_add _).symm⟩

theorem span_union (L : grid0.Coords) {a b c : ℕ} (h : a ≤ b) (h' : b ≤ c) : span L a b ∪ span L b c = span L a c := by
  ext j; simp only [span, Finset.mem_union, Finset.mem_filter, Finset.mem_univ, true_and]; omega
theorem span_disjoint (L : grid0.Coords) (a b c : ℕ) : Disjoint (span L a b) (span L b c) := by
  rw [Finset.disjoint_left]; intro j; simp only [span, Finset.mem_filter, Finset.mem_univ, true_and]; omega
theorem span_self (L : grid0.Coords) (a : ℕ) : span L a a = ∅ := by
  ext j; simp only [span, Finset.mem_filter, Finset.mem_univ, true_and, Finset.notMem_empty, iff_false]; omega

end Cert.Proof.Gather

end
-- ==== Proof.Values.lean ====
/- What the gather computes, element by element: row `r` of the result is the table's row that position `r` names. The
   lists a worker fetches hold its blocks of positions, and the rows the stream brings for one are that block of the result. -/
module

public import proofs.«01_k».proof.Proof.Slots

@[expose] public section

noncomputable section

namespace Cert.Proof.Gather

open Cert.Kernel Cert.Kernel.Gen

open Idealize.ShloMosaic

variable {F : FTy → Type}

/-- The table's element in the row a word names, at the other coordinates of `j`. -/
def tabIx (w : BitVec 32) (j : S131072x2x128.Idx) : S163840x2x128.Idx := fun a => match a with
  | ⟨0, _⟩ => (⟨w.toNat % 163840, Nat.mod_lt _ (by decide)⟩ : Fin 163840)
  | ⟨1, _⟩ => j 1
  | ⟨2, _⟩ => j 2

/-- Position `r` in the row of positions. -/
def posIx (r : ℕ) : S1x131072.Idx := fun a => match a with
  | ⟨0, _⟩ => (⟨0, by decide⟩ : Fin 1)
  | ⟨1, _⟩ => (⟨r % 131072, Nat.mod_lt _ (by decide)⟩ : Fin 131072)

/-- The rows gathered. -/
def G (Y : S163840x2x128.Idx → Elt F .i32) (I : S1x131072.Idx → Elt F .i32) : S131072x2x128.Idx → Elt F .i32 :=
  fun j => Y (tabIx (I (posIx (j 0).val)) j)

/-! ## Where the views put their elements -/

theorem srcM_emb (L : grid0.Coords) (k : ℕ) (x : S1x128.Idx) : (srcM L k).view.emb x = posIx (128 * blk L k + (x 1).val) := by
  have hb := blk_lt L k
  have hx : (x 1).val < 128 := (x 1).isLt
  have hx0 : (x 0).val < 1 := (x 0).isLt
  refine (show (srcM L k).view.emb x = (Rect.unit (s := S1x131072) ![0, 128 * blk L k] S1x128.size (inb_src L k)).emb x from rfl).trans ?_
  funext a
  match a with
  | ⟨0, _⟩ => refine Fin.ext ?_; show 0 + 1 * (x 0).val = 0; omega
  | ⟨1, _⟩ => refine Fin.ext ?_; show 128 * blk L k + 1 * (x 1).val = (128 * blk L k + (x 1).val) % 131072; omega

/-- Entry `x` of a list, in the row it is a list of. -/
def lstIx (x : S128.Idx) : S1x128.Idx := fun a => match a with
  | ⟨0, _⟩ => (⟨0, by decide⟩ : Fin 1)
  | ⟨1, _⟩ => x 0

theorem lstM_emb (p : Fin 2) (x : S128.Idx) : (lstM p).view.emb x = (idxM p).view.emb (lstIx x) := by
  refine (show (lstM p).view.emb x = (idxM p).view.emb ((Rect.unit (s := S1x128) ![0, 0] S1x128.size inb_S1x128_S1x128_0_0).emb
      (Shape.reshapeEquiv squeezes_S1x128_S128.numel_eq x)) from rfl).trans ?_
  refine congrArg (fun z : S1x128.Idx => (idxM p).view.emb z) ?_
  have hr : Shape.reshapeEquiv squeezes_S1x128_S128.numel_eq x = Fin.cons (⟨0, by decide⟩ : Fin 1) x := Shape.reshapeEquiv_cons_one _ _
  rw [hr]
  funext a
  match a with
  | ⟨0, _⟩ => refine Fin.ext ?_; show 0 + 1 * 0 = 0; rfl
  | ⟨1, _⟩ => refine Fin.ext ?_; show 0 + 1 * (x 0).val = (x 0).val; omega

/-- Element `x` of block `k`'s rows, in the result. -/
def outIx (L : grid0.Coords) (k : ℕ) (x : S128x2x128.Idx) : S131072x2x128.Idx := (outM L k).view.emb x

theorem outIx_val (L : grid0.Coords) (k : ℕ) (x : S128x2x128.Idx) :
    (outIx L k x 0).val = 128 * blk L k + (x 0).val ∧ (outIx L k x 1).val = (x 1).val ∧ (outIx L k x 2).val = (x 2).val := by
  have h : outIx L k x = (Rect.unit (s := S131072x2x128) ![128 * blk L k, 0, 0] S128x2x128.size (inb_out L k)).emb x := rfl
  rw [h]
  refine ⟨?_, ?_, ?_⟩
  · show 128 * blk L k + 1 * (x 0).val = _; omega
  · show 0 + 1 * (x 1).val = _; omega
  · show 0 + 1 * (x 2).val = _; omega

/-! ## Reading and writing through them -/

/-- The list in position slot `p` is block `k` of the positions. -/
def Holds (I : S1x131072.Idx → Elt F .i32) (L : grid0.Coords) (k : ℕ) (p : Fin 2) (f : S2x1x128.Idx → Elt F .i32) : Prop :=
  ∀ x : S128.Idx, (lstM p).view.read (Elt F) f x = I (posIx (128 * blk L k + (x 0).val))

theorem holds_write (I : S1x131072.Idx → Elt F .i32) (L : grid0.Coords) (k : ℕ) (p : Fin 2) (f : S2x1x128.Idx → Elt F .i32) :
    Holds I L k p ((idxM p).view.write (Elt F) f ((srcM L k).view.read (Elt F) I) Finset.univ) := by
  intro x
  refine ((View.read_apply (v := (lstM p).view) (Val := Elt F) _ x).trans (cast_eq _ _)).trans ?_
  refine (congrArg ((idxM p).view.write (Elt F) f ((srcM L k).view.read (Elt F) I) Finset.univ) (lstM_emb p x)).trans ?_
  refine (View.write_emb_of_mem (v := (idxM p).view) (Val := Elt F) f _ (Finset.mem_univ _)).trans ?_
  refine (cast_eq _ _).trans ?_
  refine ((View.read_apply (v := (srcM L k).view) (Val := Elt F) _ _).trans (cast_eq _ _)).trans ?_
  exact congrArg I (srcM_emb L k _)

/-- The rows the stream brings for block `k` are the result's. -/
theorem gathered (Y : S163840x2x128.Idx → Elt F .i32) (I : S1x131072.Idx → Elt F .i32) (hI : ∀ j, (I j).toNat < 163840)
    (L : grid0.Coords) (k : ℕ) (p : Fin 2) (f : S2x1x128.Idx → Elt F .i32) (hf : Holds I L k p f) (hg : S163840x2x128.Gathers 0 S128x2x128)
    (hn : S128.numel = S128x2x128.size hg.axis') (hin : ∀ x, ((lstM p).view.read (Elt F) f x).toNat < S163840x2x128.size hg.axis) :
    SparseCore.gatherPayload hg (tabM.view.read (Elt F) Y) (SparseCore.rows ((lstM p).view.read (Elt F) f) hn hin) = (outM L k).view.read (Elt F) (G Y I) := by
  have hb := blk_lt L k
  funext x
  obtain ⟨e0, e1, e2⟩ := outIx_val L k x
  have hx : (x 0).val < 128 := (x 0).isLt
  have hy : ∀ z, tabM.view.read (Elt F) Y z = Y z := fun z => by
    refine ((View.read_apply (v := tabM.view) (Val := Elt F) Y z).trans (cast_eq _ _)).trans (congrArg Y ?_)
    refine (show tabM.view.emb z = (Rect.unit (s := S163840x2x128) ![0, 0, 0] S163840x2x128.size inb_S163840x2x128_S163840x2x128_0_0_0).emb z from rfl).trans ?_
    funext a
    refine Fin.ext ?_
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  refine (hy _).trans ?_
  refine Eq.trans ?_ ((View.read_apply (v := (outM L k).view) (Val := Elt F) (G Y I) x).trans (cast_eq _ _)).symm
  show Y _ = G Y I (outIx L k x)
  unfold G
  refine congrArg Y ?_
  funext a
  refine Fin.ext ?_
  match a with
  | ⟨0, _⟩ =>
    refine (congrArg Fin.val (Shape.Gathers.idx_axis hg _ x)).trans ?_
    show ((lstM p).view.read (Elt F) f (S128.rowMajor.symm ((x hg.axis').cast hn.symm))).toNat = (I (posIx (outIx L k x 0).val)).toNat % 163840
    rw [Nat.mod_eq_of_lt (hI _), hf]
    have hk : ∀ z : Fin S128.numel, ((S128.rowMajor.symm z) 0).val = z.val := fun z => by
      conv_rhs => rw [← Equiv.apply_symm_apply S128.rowMajor z]
      exact (Shape.rowMajor_val_one _).symm
    rw [hk, e0]
    rfl
  | ⟨1, _⟩ => exact (Shape.Gathers.idx_of_ne hg _ x ⟨1, by decide⟩ (by decide)).trans e1.symm
  | ⟨2, _⟩ => exact (Shape.Gathers.idx_of_ne hg _ x ⟨2, by decide⟩ (by decide)).trans e2.symm

/-- Written with what it reads of `g`, a view's buffer is `g` on the view's elements. -/
theorem write_read_on {sp : Space} {s : Shape} {e : EltTy} {κ : Kind} (v : View sig κ sp s e) (f g : v.ty.Contents (Elt F)) :
    ∀ j ∈ v.set, v.write (Elt F) f (v.read (Elt F) g) Finset.univ j = g j := by
  intro j hj
  obtain ⟨x, -, rfl⟩ := Finset.mem_map.mp hj
  refine (View.write_emb_of_mem (v := v) (Val := Elt F) f _ (Finset.mem_univ x)).trans ?_
  rw [View.read_apply]
  simp

end Cert.Proof.Gather

end
-- ==== Proof.Steps.lean ====
/- The steps of a worker, one transfer at a time: a block of positions sent for and arrived, the rows it names gathered, the
   block of rows sent out and gone. Each is a rule at the head of a program, over the slot and the block it is about. -/
module

public import proofs.«01_k».proof.Proof.Values

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Y : S163840x2x128.Idx → Elt F .i32) (I : S1x131072.Idx → Elt F .i32) (d : Dev nD) (L : grid0.Coords)
variable (O : CellTallies nD τ sig (HIx 1)) (W : Waits sig (HIx 1))

/-- Position slot `p`, and row slot `p`, at some contents. -/
def lstP (p : Fin 2) (f : S2x1x128.Idx → Elt F .i32) : sProp 𝕄 := sV.view.loc (th d L) ↦[idxSet p]{fullShare} f
def rowP (p : Fin 2) (f : S2x128x2x128.Idx → Elt F .i32) : sProp 𝕄 := rV.view.loc (th d L) ↦[rowSet p]{fullShare} f
/-- Some share of the positions, a share of the table, and rows of the result. -/
def posP : sProp 𝕄 := iprop(∃ q, iLoc d ↦{q} I)
def tabP (q : PosShare TreeShare) : sProp 𝕄 := iprop(yLoc d ↦{q} Y)
def outP (a b : ℕ) (g : S131072x2x128.Idx → Elt F .i32) : sProp 𝕄 := oLoc d ↦[span L a b]{fullShare} g
/-- The cells at zero. -/
def inC (p : Fin 2) : sProp 𝕄 := semVal (th d L, .dma (inA p).sem) 0
def outC (p : Fin 2) : sProp 𝕄 := semVal (th d L, .dma (outA p).sem) 0
def gatC : sProp 𝕄 := semVal (th d L, .dma cc0_scoped4.sem) 0
/-- What the worker owes, with the waits it has made. -/
def owed : sProp 𝕄 := iprop(∃ W', ⌜∀ p ∈ W', p ∈ W ∨ p.2 = none⌝ ∗ owes (th d L) O W')
abbrev waits : sProp 𝕄 := Transfers.MayWaits (th d L) (default : HIx 1) O

/-- Block `k` of the positions on its way into slot `p`, there, and block `k` of the rows in row slot `p`, and on its way out. -/
def inFl (k : ℕ) (p : Fin 2) : sProp 𝕄 :=
  Transfers.Flight countersEmb (th d L) (.dma (inA p).sem) (default : HIx 1) ((idxM p).view.dmaCredit) iprop(∃ f, ⌜Holds I L k p f⌝ ∗ lstP d L p f)
def lstG (k : ℕ) (p : Fin 2) : sProp 𝕄 := iprop(∃ f, ⌜Holds I L k p f⌝ ∗ lstP d L p f)
def rowG (k : ℕ) (p : Fin 2) : sProp 𝕄 :=
  iprop(∃ f, ⌜(rowM p).view.read (Elt F) f = (outM L k).view.read (Elt F) (G Y I)⌝ ∗ rowP d L p f)
def outFl (k : ℕ) (p : Fin 2) : sProp 𝕄 :=
  Transfers.Flight countersEmb (th d L) (.dma (outA p).sem) (default : HIx 1) ((outM L k).view.dmaCredit) iprop((∃ f, rowP d L p f) ∗ outP d L k (k + 1) (G Y I))

theorem lst_pts (p : Fin 2) (f : S2x1x128.Idx → Elt F .i32) : ((lstM p).view.loc (th d L) ↦[(lstM p).view.set]{fullShare} f : sProp 𝕄) = lstP d L p f := by
  rw [lstM_set]; rfl
theorem idx_pts (p : Fin 2) (f : S2x1x128.Idx → Elt F .i32) : ((idxM p).view.loc (th d L) ↦[(idxM p).view.set]{fullShare} f : sProp 𝕄) = lstP d L p f := by
  rw [idxM_set]; rfl
theorem row_pts (p : Fin 2) (f : S2x128x2x128.Idx → Elt F .i32) : ((rowM p).view.loc (th d L) ↦[(rowM p).view.set]{fullShare} f : sProp 𝕄) = rowP d L p f := by
  rw [rowM_set]; rfl
theorem tab_pts (q : PosShare TreeShare) : (tabM.view.loc (th d L) ↦[tabM.view.set]{q} Y : sProp 𝕄) = tabP Y d q := by
  rw [tabM_set]; rfl
theorem out_pts {k : ℕ} (h : k < 32) (f : S131072x2x128.Idx → Elt F .i32) :
    ((outM L k).view.loc (th d L) ↦[(outM L k).view.set]{fullShare} f : sProp 𝕄) = outP d L k (k + 1) f := by
  rw [outM_set L h]; rfl

theorem rows_credit : ∀ (p : Fin 2) (h : S163840x2x128.Gathers 0 S128x2x128),
    ∑ j, ((rowM p).slice (S128x2x128.rowRect h.axis' j) (S128x2x128.stride_rowRect h.axis' j)).view.dmaCredit = (rowM p).view.dmaCredit := by decide +kernel

/-- Block `k` of the positions is sent for. -/
theorem startIn {α : Type} {Q : α → sProp 𝕄} (k : ℕ) (p : Fin 2) {src : Memref sig .scVector .hbm S1x128 .i32} {dst : Memref sig .scVector .vmem S1x128 .i32} {sm : DmaSem sig}
    (es : src = srcM L k) (ed : dst = idxM p) (em : sm = (inA p).sem) {h1 h2 h3} {kk : PUnit → Prog (TpuEff nD τ sig (Elt F) Λ₀ (th d L).2) α} :
    iprop(posP I d ∗ (∃ f, lstP d L p f) ∗ inC d L p)
      ⊢ iprop((iprop(inFl I d L k p ∗ posP I d) -∗ wp frame (wpE (defs₀ (F := F)) 𝒱₀ (th d L) none) Set.univ (kk ⟨⟩) Q)
        -∗ wp frame (wpE (defs₀ (F := F)) 𝒱₀ (th d L) none) Set.univ (.op (.enqueueDma src (.here dst) (.dma sm) h1 h2 h3) kk) Q) := by
  subst es ed em
  unfold posP inC inFl
  iintro ⟨⟨%q, Hi⟩, ⟨%f, Hf⟩, Hc⟩ Hk
  have hm : iprop(((idxM p).view.loc (th d L) ↦[(idxM p).view.set]{fullShare} (idxM p).view.write (Elt F) f (ReadAs.same.apply ((srcM L k).view.read (Elt F) I)) Finset.univ)
      ∗ ((srcM L k).view.loc (th d L) ↦[(srcM L k).view.set]{q.left} I)) ⊢ (iprop(∃ f, ⌜Holds I L k p f⌝ ∗ lstP d L p f) : sProp 𝕄) := by
    iintro ⟨Hd, -⟩
    iexists ((idxM p).view.write (Elt F) f ((srcM L k).view.read (Elt F) I) Finset.univ)
    isplitr
    · ipureintro; exact holds_write I L k p f
    iapply (Entails.of_eq (idx_pts d L p _)); iexact Hd
  ihave Hi' := (pointsTo_share (PosShare.mem_left_op_right q)).1 $$ Hi
  icases Hi' with ⟨Hl, Hr⟩
  ihave Hl' := (pointsTo_split_subset (q := q.left) (f := I) (ℓ := iLoc d) (S := Finset.univ) (Finset.subset_univ (srcM L k).view.set)).1 $$ Hl
  icases Hl' with ⟨Hl, -⟩
  ihave Hf' := (Entails.of_eq (idx_pts d L p f).symm) $$ Hf
  iapply (Transfers.wp_dmaLocal countersEmb 𝒱₀ (th d L) none (src := srcM L k) (dst := idxM p) (sm := .dma (inA p).sem) (q := q.left) (fs := I)
    (Sd := (idxM p).view.set) (fd := f) (default : HIx 1) ((idxM p).view.dmaCredit) rfl (View.dmaCredit_pos _ (by decide)) (Finset.Subset.refl _)) $$ [Hl Hf' Hc]
  · isplitl [Hl]; · iexact Hl
    isplitl [Hf']; · iexact Hf'
    iexact Hc
  iintro Hfl
  iapply Hk
  isplitl [Hfl]
  · iapply (Transfers.Flight_mono countersEmb (th d L) hm) $$ Hfl
  iexists q.right; iexact Hr

/-- It has arrived. -/
theorem endIn {α : Type} {Q : α → sProp 𝕄} (k : ℕ) (p : Fin 2) {src : Memref sig .scVector .hbm S1x128 .i32} {dst : Memref sig .scVector .vmem S1x128 .i32} {sm : DmaSem sig}
    (ed : dst = idxM p) (em : sm = (inA p).sem) {h1 h2} {kk : PUnit → Prog (TpuEff nD τ sig (Elt F) Λ₀ (th d L).2) α} :
    iprop(inFl I d L k p ∗ owed d L O W ∗ waits d L O)
      ⊢ iprop((iprop(lstG I d L k p ∗ inC d L p ∗ owed d L O W) -∗ wp frame (wpE (defs₀ (F := F)) 𝒱₀ (th d L) none) Set.univ (kk ⟨⟩) Q)
        -∗ wp frame (wpE (defs₀ (F := F)) 𝒱₀ (th d L) none) Set.univ (.op (.waitDma2 sm src dst h1 h2) kk) Q) := by
  subst ed em
  unfold inFl owed inC lstG
  iintro ⟨Hfl, ⟨%W', %hW, HO⟩, Hmw⟩ Hk
  iapply (Transfers.wp_waitLocalO countersEmb 𝒱₀ (th d L) none (default : HIx 1) (dstw := idxM p) rfl) $$ [Hfl HO Hmw]
  · isplitl [Hfl]; · iexact Hfl
    isplitl [HO]; · iexact HO
    iapply (Transfers.MayWaits.elim (SemLoc.dma (inA p).sem)) $$ Hmw
  iintro ⟨HD, Hc, HO⟩
  iapply Hk
  isplitl [HD]; · iexact HD
  isplitl [Hc]; · iexact Hc
  iexists (insert (SemLoc.dma (inA p).sem, (default : HIx 1)) W')
  isplitr
  · ipureintro
    intro x hx
    rcases Finset.mem_insert.mp hx with hx | hx
    · exact Or.inr (congrArg Prod.snd hx)
    · exact hW x hx
  iexact HO

/-- The rows block `k` of the positions names, gathered into row slot `p`. -/
theorem gather {α : Type} {Q : α → sProp 𝕄} (hI : ∀ j, (I j).toNat < 163840) (q : PosShare TreeShare) (k : ℕ) (p : Fin 2)
    {tab tab' : Memref sig .scVector .hbm S163840x2x128 .i32} {dst dst' : Memref sig .scVector .vmem S128x2x128 .i32} {lst : Memref sig .scVector .vmem S128 .i32}
    (et : tab = tabM) (ed : dst = rowM p) (ed' : dst' = rowM p) (el : lst = lstM p) {hg : S163840x2x128.Gathers 0 S128x2x128} {hp hn he hsp hr h3 h4}
    {h1 : tab.view.WordExact}
    {kk : PUnit → Prog (TpuEff nD τ sig (Elt F) Λ₀ (th d L).2) α} :
    iprop(tabP Y d q ∗ (∃ f, rowP d L p f) ∗ lstG I d L k p ∗ gatC d L ∗ owed d L O W ∗ waits d L O)
      ⊢ iprop((iprop(tabP Y d q ∗ rowG Y I d L k p ∗ (∃ f, lstP d L p f) ∗ gatC d L ∗ owed d L O W) -∗ wp frame (wpE (defs₀ (F := F)) 𝒱₀ (th d L) none) Set.univ (kk ⟨⟩) Q)
        -∗ wp frame (wpE (defs₀ (F := F)) 𝒱₀ (th d L) none) Set.univ
            (SparseCore.enqueueIndirectGather (p := (th d L).2) hp tab dst hg lst hn cc0_scoped4.sem h1 he hsp hr >>= fun _ => .op (.waitDma2 cc0_scoped4.sem tab' dst' h3 h4) kk) Q) := by
  subst et ed ed' el
  unfold lstG owed gatC rowG
  iintro ⟨Ht, ⟨%fr, Hr⟩, ⟨%fl, %hl, Hl⟩, Hc, ⟨%W', %hW, HO⟩, Hmw⟩ Hk
  ihave Ht' := (Entails.of_eq (tab_pts Y d L q).symm) $$ Ht
  ihave Hr' := (Entails.of_eq (row_pts d L p fr).symm) $$ Hr
  ihave Hl' := (Entails.of_eq (lst_pts d L p fl).symm) $$ Hl
  have hN : ∀ h : S163840x2x128.Gathers 0 S128x2x128, ∑ j, ((rowM p).slice (S128x2x128.rowRect h.axis' j) (S128x2x128.stride_rowRect h.axis' j)).view.dmaCredit = (rowM p).view.dmaCredit := by
    exact rows_credit p
  have hin : ∀ x, ((lstM p).view.read (Elt F) fl x).toNat < S163840x2x128.size hg.axis := fun x => by rw [hl x]; exact hI _
  iapply (SparseCore.wp_indirectGatherLocal countersEmb 𝒱₀ (th d L) none (hg := hg) (src := tabM) (dst := rowM p) (offs := lstM p) (default : HIx 1)
    ((rowM p).view.dmaCredit) (hN hg) (by decide) hin) $$ [Ht' Hr' Hl' Hc]
  · isplitl [Ht']; · iexact Ht'
    isplitl [Hr']; · iexact Hr'
    isplitl [Hl']; · iexact Hl'
    iexact Hc
  iintro Hfl
  iapply (Transfers.wp_waitLocalO countersEmb 𝒱₀ (th d L) none (default : HIx 1) (dstw := rowM p) rfl) $$ [Hfl HO Hmw]
  · isplitl [Hfl]; · iexact Hfl
    isplitl [HO]; · iexact HO
    iapply (Transfers.MayWaits.elim (SemLoc.dma cc0_scoped4.sem)) $$ Hmw
  iintro ⟨⟨Hr, Ht, Hl⟩, Hc, HO⟩
  iapply Hk
  isplitl [Ht]; · iapply (Entails.of_eq (tab_pts Y d L q)); iexact Ht
  isplitl [Hr]
  · iexists ((rowM p).view.write (Elt F) fr (SparseCore.gatherPayload hg (tabM.view.read (Elt F) Y) (SparseCore.rows ((lstM p).view.read (Elt F) fl) hn hin)) Finset.univ)
    isplitr
    · ipureintro
      refine (View.read_write_univ (v := (rowM p).view) (Val := Elt F) fr _).trans ?_
      exact gathered Y I hI L k p fl hl hg hn hin
    iapply (Entails.of_eq (row_pts d L p _)); iexact Hr
  isplitl [Hl]
  · iexists fl
    iapply (Entails.of_eq (lst_pts d L p _)); iexact Hl
  isplitl [Hc]; · iexact Hc
  iexists (insert (SemLoc.dma cc0_scoped4.sem, (default : HIx 1)) W')
  isplitr
  · ipureintro
    intro x hx
    rcases Finset.mem_insert.mp hx with hx | hx
    · exact Or.inr (congrArg Prod.snd hx)
    · exact hW x hx
  iexact HO

/-- The same with the stream and its wait one after the other. -/
theorem gatherSeq {Q : PUnit → sProp 𝕄} (hI : ∀ j, (I j).toNat < 163840) (q : PosShare TreeShare) (k : ℕ) (p : Fin 2)
    {tab tab' : Memref sig .scVector .hbm S163840x2x128 .i32} {dst dst' : Memref sig .scVector .vmem S128x2x128 .i32} {lst : Memref sig .scVector .vmem S128 .i32}
    (et : tab = tabM) (ed : dst = rowM p) (ed' : dst' = rowM p) (el : lst = lstM p) {hg : S163840x2x128.Gathers 0 S128x2x128} {hp hn he hsp hr h3 h4}
    {h1 : tab.view.WordExact} :
    iprop(tabP Y d q ∗ (∃ f, rowP d L p f) ∗ lstG I d L k p ∗ gatC d L ∗ owed d L O W ∗ waits d L O)
      ⊢ iprop((iprop(tabP Y d q ∗ rowG Y I d L k p ∗ (∃ f, lstP d L p f) ∗ gatC d L ∗ owed d L O W) -∗ Q ⟨⟩)
        -∗ wp frame (wpE (defs₀ (F := F)) 𝒱₀ (th d L) none) Set.univ
            (SparseCore.enqueueIndirectGather (p := (th d L).2) hp tab dst hg lst hn cc0_scoped4.sem h1 he hsp hr)
            fun _ => wp frame (wpE (defs₀ (F := F)) 𝒱₀ (th d L) none) Set.univ (SparseCore.waitIndirectGather (p := (th d L).2) cc0_scoped4.sem tab' dst' h3 h4) Q) := by
  rw [← wp_bind]
  unfold SparseCore.waitIndirectGather
  iintro H Hk
  iapply (gather Y I d L O W hI q k p et ed ed' el) $$ H
  iintro H
  rw [wp_ret]; imodintro
  iapply Hk; iexact H

/-- Block `k` of the rows is sent out. -/
theorem startOut {α : Type} {Q : α → sProp 𝕄} {k : ℕ} (hk : k < 32) (p : Fin 2) {src : Memref sig .scVector .vmem S128x2x128 .i32} {dst : Memref sig .scVector .hbm S128x2x128 .i32} {sm : DmaSem sig}
    (es : src = rowM p) (ed : dst = outM L k) (em : sm = (outA p).sem) {h1 h2 h3} {g : S131072x2x128.Idx → Elt F .i32}
    {kk : PUnit → Prog (TpuEff nD τ sig (Elt F) Λ₀ (th d L).2) α} :
    iprop(rowG Y I d L k p ∗ outP d L k (k + 1) g ∗ outC d L p)
      ⊢ iprop((outFl Y I d L k p -∗ wp frame (wpE (defs₀ (F := F)) 𝒱₀ (th d L) none) Set.univ (kk ⟨⟩) Q)
        -∗ wp frame (wpE (defs₀ (F := F)) 𝒱₀ (th d L) none) Set.univ (.op (.enqueueDma src (.here dst) (.dma sm) h1 h2 h3) kk) Q) := by
  subst es ed em
  unfold rowG outC outFl
  iintro ⟨⟨%f, %hf, Hr⟩, Ho, Hc⟩ Hk
  have hm : iprop(((outM L k).view.loc (th d L) ↦[(outM L k).view.set]{fullShare} (outM L k).view.write (Elt F) g (ReadAs.same.apply ((rowM p).view.read (Elt F) f)) Finset.univ)
      ∗ ((rowM p).view.loc (th d L) ↦[(rowM p).view.set]{fullShare} f)) ⊢ (iprop((∃ f, rowP d L p f) ∗ outP d L k (k + 1) (G Y I)) : sProp 𝕄) := by
    iintro ⟨Ho, Hr⟩
    isplitl [Hr]
    · iexists f
      iapply (Entails.of_eq (row_pts d L p _)); iexact Hr
    iapply (Entails.of_eq (out_pts d L hk (G Y I)))
    iapply (Entails.of_eq (pointsTo_congr (ℓ := (outM L k).view.loc (th d L)) (q := fullShare) (I := (outM L k).view.set)
      (f := (outM L k).view.write (Elt F) g ((rowM p).view.read (Elt F) f) Finset.univ) (g := G Y I) (by
        intro j hj; rw [hf]; exact write_read_on (outM L k).view g (G Y I) j hj)))
    iexact Ho
  ihave Hr' := (Entails.of_eq (row_pts d L p f).symm) $$ Hr
  ihave Ho' := (Entails.of_eq (out_pts d L hk g).symm) $$ Ho
  iapply (Transfers.wp_dmaLocal countersEmb 𝒱₀ (th d L) none (src := rowM p) (dst := outM L k) (sm := .dma (outA p).sem) (q := fullShare) (fs := f)
    (Sd := (outM L k).view.set) (fd := g) (default : HIx 1) ((outM L k).view.dmaCredit) rfl (View.dmaCredit_pos _ (by decide)) (Finset.Subset.refl _)) $$ [Hr' Ho' Hc]
  · isplitl [Hr']; · iexact Hr'
    isplitl [Ho']; · iexact Ho'
    iexact Hc
  iintro Hfl
  iapply Hk
  iapply (Transfers.Flight_mono countersEmb (th d L) hm) $$ Hfl

/-- It is out. -/
theorem endOut {α : Type} {Q : α → sProp 𝕄} (k : ℕ) (p : Fin 2) {src : Memref sig .scVector .vmem S128x2x128 .i32} {dst : Memref sig .scVector .hbm S128x2x128 .i32} {sm : DmaSem sig}
    (ed : dst = outM L k) (em : sm = (outA p).sem) {h1 h2} {kk : PUnit → Prog (TpuEff nD τ sig (Elt F) Λ₀ (th d L).2) α} :
    iprop(outFl Y I d L k p ∗ owed d L O W ∗ waits d L O)
      ⊢ iprop((iprop((∃ f, rowP d L p f) ∗ outP d L k (k + 1) (G Y I) ∗ outC d L p ∗ owed d L O W) -∗ wp frame (wpE (defs₀ (F := F)) 𝒱₀ (th d L) none) Set.univ (kk ⟨⟩) Q)
        -∗ wp frame (wpE (defs₀ (F := F)) 𝒱₀ (th d L) none) Set.univ (.op (.waitDma2 sm src dst h1 h2) kk) Q) := by
  subst ed em
  unfold outFl owed outC
  iintro ⟨Hfl, ⟨%W', %hW, HO⟩, Hmw⟩ Hk
  iapply (Transfers.wp_waitLocalO countersEmb 𝒱₀ (th d L) none (default : HIx 1) (dstw := outM L k) rfl) $$ [Hfl HO Hmw]
  · isplitl [Hfl]; · iexact Hfl
    isplitl [HO]; · iexact HO
    iapply (Transfers.MayWaits.elim (SemLoc.dma (outA p).sem)) $$ Hmw
  iintro ⟨⟨Hr, Ho⟩, Hc, HO⟩
  iapply Hk
  isplitl [Hr]; · iexact Hr
  isplitl [Ho]; · iexact Ho
  isplitl [Hc]; · iexact Hc
  iexists (insert (SemLoc.dma (outA p).sem, (default : HIx 1)) W')
  isplitr
  · ipureintro
    intro x hx
    rcases Finset.mem_insert.mp hx with hx | hx
    · exact Or.inr (congrArg Prod.snd hx)
    · exact hW x hx
  iexact HO

end Cert.Proof.Gather

end
-- ==== Proof.Trip.lean ====
/- One trip of a worker's loop, and the whole of its work: block by block, the next block of positions is sent for, the
   present one awaited, its rows gathered and sent out, and the rows before them awaited. -/
module

public import proofs.«01_k».proof.Proof.Steps

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Y : S163840x2x128.Idx → Elt F .i32) (I : S1x131072.Idx → Elt F .i32) (g₀ : S131072x2x128.Idx → Elt F .i32) (q : PosShare TreeShare)
variable (d : Dev nD) (L : grid0.Coords) (O : CellTallies nD τ sig (HIx 1)) (W : Waits sig (HIx 1))

/-- Position slot `p` and its cell at rest; row slot `p` and its cell at rest. -/
abbrev inRest (p : Fin 2) : sProp 𝕄 := iprop((∃ f, lstP d L p f) ∗ inC d L p)
abbrev outRest (p : Fin 2) : sProp 𝕄 := iprop((∃ f, rowP d L p f) ∗ outC d L p)
/-- Position slot `p` with block `k` on its way, if there is such a block. -/
def inSt (k : ℕ) (p : Fin 2) : sProp 𝕄 := if k < 32 then inFl I d L k p else inRest d L p
/-- Row slot `p` with block `k - 1` on its way out, if there is such a block. -/
def outSt (k : ℕ) (p : Fin 2) : sProp 𝕄 := if k = 0 then outRest d L p else outFl Y I d L (k - 1) p

/-- Before trip `k`. -/
def inv (k : ℕ) (acc : BitVec 32 × BitVec 32 × BitVec 32 × BitVec 32 × BitVec 32) : sProp 𝕄 :=
  iprop(⌜acc = (w6 k, w7 k, w7 k, w9 k, w10 k)⌝ ∗ waits d L O ∗ tabP Y d q ∗ posP I d ∗ gatC d L ∗ owed d L O W
    ∗ inSt I d L k (Ring.sl 2 k) ∗ inRest d L (Ring.sl 2 (k + 1)) ∗ outRest d L (Ring.sl 2 k) ∗ outSt Y I d L k (Ring.sl 2 (k + 1))
    ∗ outP d L k 32 g₀ ∗ outP d L 0 (k - 1) (G Y I))

/-- The words carried to the next trip. -/
theorem words_next : ∀ (L : grid0.Coords) (k : Fin k0_t1_loop.trips),
    (Scalar.select (Scalar.andi (Scalar.andi (Scalar.cmpi CmpIPredicate.ne (Scalar.addi (w10 k.val) (v4 L)) (Scalar.addi (Scalar.select
          (Scalar.cmpi CmpIPredicate.eq (Scalar.select (1#1) (Scalar.addi (w10 k.val) 1#32) (w10 k.val)) 32#32) (0#32)
          (Scalar.select (1#1) (Scalar.addi (w10 k.val) 1#32) (w10 k.val))) (v4 L)))
        (Scalar.xori (Scalar.cmpi CmpIPredicate.sge (Scf.iv 0#32 1#32 k.val) 31#32) 1#1)) 1#1) (Scalar.addi (w6 k.val) 1#32) (w6 k.val),
      Scalar.select (Scalar.ori (Scalar.cmpi CmpIPredicate.ne (Scalar.addi (w10 k.val) (v4 L)) (Scalar.addi (Scalar.select
          (Scalar.cmpi CmpIPredicate.eq (Scalar.select (1#1) (Scalar.addi (w10 k.val) 1#32) (w10 k.val)) 32#32) (0#32)
          (Scalar.select (1#1) (Scalar.addi (w10 k.val) 1#32) (w10 k.val))) (v4 L)))
        (Scalar.cmpi CmpIPredicate.eq (Scf.iv 0#32 1#32 k.val) 31#32)) (Scalar.addi (w7 k.val) 1#32) (w7 k.val),
      Scalar.select (Scalar.andi (Scalar.ori (Scalar.cmpi CmpIPredicate.ne (Scalar.addi (w10 k.val) (v4 L)) (Scalar.addi (Scalar.select
          (Scalar.cmpi CmpIPredicate.eq (Scalar.select (1#1) (Scalar.addi (w10 k.val) 1#32) (w10 k.val)) 32#32) (0#32)
          (Scalar.select (1#1) (Scalar.addi (w10 k.val) 1#32) (w10 k.val))) (v4 L)))
        (Scalar.cmpi CmpIPredicate.eq (Scf.iv 0#32 1#32 k.val) 31#32)) 1#1) (Scalar.addi (w7 k.val) 1#32) (w7 k.val),
      Scalar.select (Scalar.andi (Scalar.andi (Scalar.cmpi CmpIPredicate.ne (Scalar.addi (w10 k.val) (v4 L)) (Scalar.addi (Scalar.select
          (Scalar.cmpi CmpIPredicate.eq (Scalar.select (1#1) (Scalar.subi (w10 k.val) 1#32) (w10 k.val)) 4294967295#32) (31#32)
          (Scalar.select (1#1) (Scalar.subi (w10 k.val) 1#32) (w10 k.val))) (v4 L)))
        (Scalar.xori (Scalar.cmpi CmpIPredicate.eq (Scf.iv 0#32 1#32 k.val) 0#32) 1#1)) 1#1) (Scalar.addi (w9 k.val) 1#32) (w9 k.val),
      Scalar.select (Scalar.cmpi CmpIPredicate.eq (Scalar.select (1#1) (Scalar.addi (w10 k.val) 1#32) (w10 k.val)) 32#32) (0#32)
        (Scalar.select (1#1) (Scalar.addi (w10 k.val) 1#32) (w10 k.val)))
      = (w6 (k.val + 1), w7 (k.val + 1), w7 (k.val + 1), w9 (k.val + 1), w10 (k.val + 1)) := by decide +kernel

theorem inSt_pos {k : ℕ} (h : k < 32) (p : Fin 2) : inSt I d L k p = inFl I d L k p := if_pos h
theorem inSt_neg {k : ℕ} (h : ¬ k < 32) (p : Fin 2) : inSt I d L k p = inRest d L p := if_neg h
theorem outSt_pos {k : ℕ} (h : 0 < k) (p : Fin 2) : outSt Y I d L k p = outFl Y I d L (k - 1) p := if_neg (Nat.ne_of_gt h)
theorem outSt_neg {k : ℕ} (h : ¬ 0 < k) (p : Fin 2) : outSt Y I d L k p = outRest d L p := if_pos (Nat.eq_zero_of_not_pos h)
omit [FloatOps F] in
theorem lst_eq (k : Fin k0_t1_loop.trips) (inb) :
    ((((sV.slice (Rect.unit (s := S2x1x128) (k0_off11 (w7 k.val)) S1x1x128.size inb) (fun _ => rfl)).squeeze S1x128 squeezes_S1x1x128_S1x128).slice
      (Rect.unit (s := S1x128) ![0, 0] S1x128.size inb_S1x128_S1x128_0_0) (fun _ => rfl)).squeeze S128 squeezes_S1x128_S128) = lstM (Ring.sl 2 k.val) := by
  rw [c_off11 k inb]; rfl

theorem outP_split {a b c : ℕ} (h : a ≤ b) (h' : b ≤ c) (g : S131072x2x128.Idx → Elt F .i32) :
    (outP d L a c g : sProp 𝕄) ⊢ iprop(outP d L a b g ∗ outP d L b c g) := by
  unfold outP
  rw [← span_union L h h']
  exact (pointsTo_union (span_disjoint L a b c)).1
theorem outP_join {a b c : ℕ} (h : a ≤ b) (h' : b ≤ c) (g : S131072x2x128.Idx → Elt F .i32) :
    (iprop(outP d L a b g ∗ outP d L b c g) : sProp 𝕄) ⊢ outP d L a c g := by
  unfold outP
  rw [← span_union L h h']
  exact (pointsTo_union (span_disjoint L a b c)).2
theorem outP_empty (a : ℕ) (g : S131072x2x128.Idx → Elt F .i32) : (iprop(emp) : sProp 𝕄) ⊢ outP d L a a g := by
  unfold outP
  rw [span_self, pointsTo_empty]

set_option maxHeartbeats 4000000 in
theorem trip (hI : ∀ j, (I j).toNat < 163840) (k : Fin k0_t1_loop.trips) (acc : BitVec 32 × BitVec 32 × BitVec 32 × BitVec 32 × BitVec 32) :
    inv Y I g₀ q d L O W k.val acc
      ⊢ wp frame (wpE (defs₀ (F := F)) 𝒱₀ (th d L) none) Set.univ
          (k0_t1_body L yV (Memref.isWhole_whole _) iV (Memref.isWhole_whole _) oV (Memref.isWhole_whole _) sV (Memref.isWhole_whole _) cc0_scoped1
            rV (Memref.isWhole_whole _) cc0_scoped3 cc0_scoped4 (v4 L) k acc)
          (inv Y I g₀ q d L O W (k.val + 1)) := by
  have hk : k.val < 32 := k.isLt
  have hp : Ring.sl 2 (k.val + 1 + 1) = Ring.sl 2 k.val := Ring.sl_add 2 k.val
  unfold inv
  iintro ⟨%hacc, #Hmw, Ht, Hi, Hg, HO, HinS, HinR, HoutR, HoutS, Hnew, Hold⟩
  subst hacc
  unfold k0_t1_body
  simp only [k0_part1_eq_skeleton, k0_part2_eq_skeleton]
  unfold k0_part1_skel k0_part2_skel
  have e2 := cond2 L k
  have e5 := cond5 L k
  by_cases h1 : k.val < 31
  · have e1 := (cond1 L k).mpr h1
    by_cases h7 : 0 < k.val
    · have e7 := (cond7 L k).mpr h7
      simp only [e1, e2, e5, e7, ite_self, dite_true, dite_false, wp_bind, wp_pure, Prog.lift]
      iapply (wp_assume 𝒱₀ (th d L) none Set.univ (chk3 k))
      rw [wp_ret]; imodintro
      iapply (wp_assume 𝒱₀ (th d L) none Set.univ (chk2 k))
      rw [wp_ret]; imodintro
      iapply (wp_assume 𝒱₀ (th d L) none Set.univ (chk1 L k))
      rw [wp_ret]; imodintro
      icases HinR with ⟨Hlst, Hinc⟩
      iapply (startIn I d L (k.val + 1) (Ring.sl 2 (k.val + 1)) (c_off5 L k h1 _) (c_off4 k h1 _) (congrArg SemArray.sem (c_off6 k h1 _))) $$ [Hi Hlst Hinc]
      · isplitl [Hi]; · iexact Hi
        isplitl [Hlst]; · iexact Hlst
        iexact Hinc
      iintro ⟨HinN, Hi⟩
      rw [wp_ret]; imodintro; imodintro
      ihave HinN := (Entails.of_eq (inSt_pos I d L (show k.val + 1 < 32 by omega) _).symm) $$ HinN
      ihave HinS := (Entails.of_eq (inSt_pos I d L hk _)) $$ HinS
      iapply (endIn I d L O W k.val (Ring.sl 2 k.val) (c_off7 k _) (congrArg SemArray.sem (c_off9 k _))) $$ [HinS HO]
      · isplitl [HinS]; · iexact HinS
        isplitl [HO]; · iexact HO
        iexact Hmw
      iintro ⟨Hlst, Hinc, HO⟩
      rw [wp_ret]; imodintro
      icases HoutR with ⟨Hrow, Houtc⟩
      iapply (gatherSeq Y I d L O W hI q k.val (Ring.sl 2 k.val) c_tab (c_off10 k _) (c_off10 k _) (lst_eq k _)) $$ [Ht Hrow Hlst Hg HO]
      · isplitl [Ht]; · iexact Ht
        isplitl [Hrow]; · iexact Hrow
        isplitl [Hlst]; · iexact Hlst
        isplitl [Hg]; · iexact Hg
        isplitl [HO]; · iexact HO
        iexact Hmw
      iintro ⟨Ht, Hrow, Hlst, Hg, HO⟩
      imodintro
      ihave Hnew := (outP_split d L (show k.val ≤ k.val + 1 by omega) (show k.val + 1 ≤ 32 by omega) g₀) $$ Hnew
      icases Hnew with ⟨Hblk, Hnew⟩
      iapply (startOut Y I d L hk (Ring.sl 2 k.val) (c_off12 k _) (c_off13 L k _) (congrArg SemArray.sem (c_off14 k _))) $$ [Hrow Hblk Houtc]
      · isplitl [Hrow]; · iexact Hrow
        isplitl [Hblk]; · iexact Hblk
        iexact Houtc
      iintro HoutN
      rw [wp_ret]; imodintro
      ihave HoutS := (Entails.of_eq (outSt_pos Y I d L h7 _)) $$ HoutS
      iapply (endOut Y I d L O W (k.val - 1) (Ring.sl 2 (k.val + 1)) (c_off16 L k h7 _) (congrArg SemArray.sem (c_off17 k h7 _))) $$ [HoutS HO]
      · isplitl [HoutS]; · iexact HoutS
        isplitl [HO]; · iexact HO
        iexact Hmw
      iintro ⟨Hrow, Hblk, Houtc, HO⟩
      rw [wp_ret]; imodintro; imodintro
      ihave Hold := (outP_join d L (show 0 ≤ k.val - 1 by omega) (show k.val - 1 ≤ k.val - 1 + 1 by omega) (G Y I)) $$ [Hold Hblk]
      · isplitl [Hold] <;> iassumption
      ihave HoutR : outRest d L (Ring.sl 2 (k.val + 1)) $$ [Hrow Houtc]
      · isplitl [Hrow]; · iexact Hrow
        iexact Houtc
      isplitr; · ipureintro; exact words_next L k
      isplitr; · iexact Hmw
      isplitl [Ht]; · iexact Ht
      isplitl [Hi]; · iexact Hi
      isplitl [Hg]; · iexact Hg
      isplitl [HO]; · iexact HO
      isplitl [HinN]; · iexact HinN
      rw [hp]
      isplitl [Hlst Hinc]
      · isplitl [Hlst]; · iexact Hlst
        iexact Hinc
      isplitl [HoutR]; · iexact HoutR
      isplitl [HoutN]; · iapply (Entails.of_eq (outSt_pos Y I d L (show 0 < k.val + 1 by omega) _).symm); iexact HoutN
      isplitl [Hnew]; · iexact Hnew
      irw [show k.val + 1 - 1 = k.val - 1 + 1 by omega]
      iexact Hold
    · have e7 : ¬ k0_cond7 L k (w10 k.val) = 1#1 := fun e => h7 ((cond7 L k).mp e)
      simp only [e1, e2, e5, e7, ite_self, dite_true, dite_false, wp_bind, wp_pure, Prog.lift]
      iapply (wp_assume 𝒱₀ (th d L) none Set.univ (chk3 k))
      rw [wp_ret]; imodintro
      iapply (wp_assume 𝒱₀ (th d L) none Set.univ (chk2 k))
      rw [wp_ret]; imodintro
      iapply (wp_assume 𝒱₀ (th d L) none Set.univ (chk1 L k))
      rw [wp_ret]; imodintro
      icases HinR with ⟨Hlst, Hinc⟩
      iapply (startIn I d L (k.val + 1) (Ring.sl 2 (k.val + 1)) (c_off5 L k h1 _) (c_off4 k h1 _) (congrArg SemArray.sem (c_off6 k h1 _))) $$ [Hi Hlst Hinc]
      · isplitl [Hi]; · iexact Hi
        isplitl [Hlst]; · iexact Hlst
        iexact Hinc
      iintro ⟨HinN, Hi⟩
      rw [wp_ret]; imodintro; imodintro
      ihave HinN := (Entails.of_eq (inSt_pos I d L (show k.val + 1 < 32 by omega) _).symm) $$ HinN
      ihave HinS := (Entails.of_eq (inSt_pos I d L hk _)) $$ HinS
      iapply (endIn I d L O W k.val (Ring.sl 2 k.val) (c_off7 k _) (congrArg SemArray.sem (c_off9 k _))) $$ [HinS HO]
      · isplitl [HinS]; · iexact HinS
        isplitl [HO]; · iexact HO
        iexact Hmw
      iintro ⟨Hlst, Hinc, HO⟩
      rw [wp_ret]; imodintro
      icases HoutR with ⟨Hrow, Houtc⟩
      iapply (gatherSeq Y I d L O W hI q k.val (Ring.sl 2 k.val) c_tab (c_off10 k _) (c_off10 k _) (lst_eq k _)) $$ [Ht Hrow Hlst Hg HO]
      · isplitl [Ht]; · iexact Ht
        isplitl [Hrow]; · iexact Hrow
        isplitl [Hlst]; · iexact Hlst
        isplitl [Hg]; · iexact Hg
        isplitl [HO]; · iexact HO
        iexact Hmw
      iintro ⟨Ht, Hrow, Hlst, Hg, HO⟩
      imodintro
      ihave Hnew := (outP_split d L (show k.val ≤ k.val + 1 by omega) (show k.val + 1 ≤ 32 by omega) g₀) $$ Hnew
      icases Hnew with ⟨Hblk, Hnew⟩
      iapply (startOut Y I d L hk (Ring.sl 2 k.val) (c_off12 k _) (c_off13 L k _) (congrArg SemArray.sem (c_off14 k _))) $$ [Hrow Hblk Houtc]
      · isplitl [Hrow]; · iexact Hrow
        isplitl [Hblk]; · iexact Hblk
        iexact Houtc
      iintro HoutN
      rw [wp_ret]; imodintro; imodintro
      ihave HoutR := (Entails.of_eq (outSt_neg Y I d L h7 _)) $$ HoutS
      isplitr; · ipureintro; exact words_next L k
      isplitr; · iexact Hmw
      isplitl [Ht]; · iexact Ht
      isplitl [Hi]; · iexact Hi
      isplitl [Hg]; · iexact Hg
      isplitl [HO]; · iexact HO
      isplitl [HinN]; · iexact HinN
      rw [hp]
      isplitl [Hlst Hinc]
      · isplitl [Hlst]; · iexact Hlst
        iexact Hinc
      isplitl [HoutR]; · iexact HoutR
      isplitl [HoutN]; · iapply (Entails.of_eq (outSt_pos Y I d L (show 0 < k.val + 1 by omega) _).symm); iexact HoutN
      isplitl [Hnew]; · iexact Hnew
      irw [show k.val + 1 - 1 = k.val - 1 by omega]
      iexact Hold
  · have e1 : ¬ k0_cond1 L k (w10 k.val) = 1#1 := fun e => h1 ((cond1 L k).mp e)
    have h7 : 0 < k.val := by omega
    have e7 := (cond7 L k).mpr h7
    simp only [e1, e2, e5, e7, ite_self, dite_true, dite_false, wp_bind, wp_pure, Prog.lift]
    iapply (wp_assume 𝒱₀ (th d L) none Set.univ (chk3 k))
    rw [wp_ret]; imodintro
    iapply (wp_assume 𝒱₀ (th d L) none Set.univ (chk2 k))
    rw [wp_ret]; imodintro
    iapply (wp_assume 𝒱₀ (th d L) none Set.univ (chk1 L k))
    rw [wp_ret]; imodintro
    imodintro
    ihave HinN := (Entails.of_eq (inSt_neg I d L (show ¬ k.val + 1 < 32 by omega) _).symm) $$ HinR
    ihave HinS := (Entails.of_eq (inSt_pos I d L hk _)) $$ HinS
    iapply (endIn I d L O W k.val (Ring.sl 2 k.val) (c_off7 k _) (congrArg SemArray.sem (c_off9 k _))) $$ [HinS HO]
    · isplitl [HinS]; · iexact HinS
      isplitl [HO]; · iexact HO
      iexact Hmw
    iintro ⟨Hlst, Hinc, HO⟩
    rw [wp_ret]; imodintro
    icases HoutR with ⟨Hrow, Houtc⟩
    iapply (gatherSeq Y I d L O W hI q k.val (Ring.sl 2 k.val) c_tab (c_off10 k _) (c_off10 k _) (lst_eq k _)) $$ [Ht Hrow Hlst Hg HO]
    · isplitl [Ht]; · iexact Ht
      isplitl [Hrow]; · iexact Hrow
      isplitl [Hlst]; · iexact Hlst
      isplitl [Hg]; · iexact Hg
      isplitl [HO]; · iexact HO
      iexact Hmw
    iintro ⟨Ht, Hrow, Hlst, Hg, HO⟩
    imodintro
    ihave Hnew := (outP_split d L (show k.val ≤ k.val + 1 by omega) (show k.val + 1 ≤ 32 by omega) g₀) $$ Hnew
    icases Hnew with ⟨Hblk, Hnew⟩
    iapply (startOut Y I d L hk (Ring.sl 2 k.val) (c_off12 k _) (c_off13 L k _) (congrArg SemArray.sem (c_off14 k _))) $$ [Hrow Hblk Houtc]
    · isplitl [Hrow]; · iexact Hrow
      isplitl [Hblk]; · iexact Hblk
      iexact Houtc
    iintro HoutN
    rw [wp_ret]; imodintro
    ihave HoutS := (Entails.of_eq (outSt_pos Y I d L h7 _)) $$ HoutS
    iapply (endOut Y I d L O W (k.val - 1) (Ring.sl 2 (k.val + 1)) (c_off16 L k h7 _) (congrArg SemArray.sem (c_off17 k h7 _))) $$ [HoutS HO]
    · isplitl [HoutS]; · iexact HoutS
      isplitl [HO]; · iexact HO
      iexact Hmw
    iintro ⟨Hrow, Hblk, Houtc, HO⟩
    rw [wp_ret]; imodintro; imodintro
    ihave Hold := (outP_join d L (show 0 ≤ k.val - 1 by omega) (show k.val - 1 ≤ k.val - 1 + 1 by omega) (G Y I)) $$ [Hold Hblk]
    · isplitl [Hold] <;> iassumption
    ihave HoutR : outRest d L (Ring.sl 2 (k.val + 1)) $$ [Hrow Houtc]
    · isplitl [Hrow]; · iexact Hrow
      iexact Houtc
    isplitr; · ipureintro; exact words_next L k
    isplitr; · iexact Hmw
    isplitl [Ht]; · iexact Ht
    isplitl [Hi]; · iexact Hi
    isplitl [Hg]; · iexact Hg
    isplitl [HO]; · iexact HO
    isplitl [HinN]; · iexact HinN
    rw [hp]
    isplitl [Hlst Hinc]
    · isplitl [Hlst]; · iexact Hlst
      iexact Hinc
    isplitl [HoutR]; · iexact HoutR
    isplitl [HoutN]; · iapply (Entails.of_eq (outSt_pos Y I d L (show 0 < k.val + 1 by omega) _).symm); iexact HoutN
    isplitl [Hnew]; · iexact Hnew
    irw [show k.val + 1 - 1 = k.val - 1 + 1 by omega]
    iexact Hold

end Cert.Proof.Gather

end
-- ==== Proof.Task.lean ====
/- A worker's whole work: the first block of positions is sent for, the loop is run, and the last block of rows is awaited. -/
module

public import proofs.«01_k».proof.Proof.Trip

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Y : S163840x2x128.Idx → Elt F .i32) (I : S1x131072.Idx → Elt F .i32) (g₀ : S131072x2x128.Idx → Elt F .i32) (q : PosShare TreeShare)
variable (d : Dev nD) (L : grid0.Coords) (O : CellTallies nD τ sig (HIx 1)) (W : Waits sig (HIx 1))

set_option maxHeartbeats 4000000 in
/-- The task on one worker: from its blocks of the result at anything to the same blocks at the gathered rows. -/
theorem work (hI : ∀ j, (I j).toNat < 163840) :
    iprop(waits d L O ∗ tabP Y d q ∗ posP I d ∗ gatC d L ∗ owed d L O W ∗ inRest d L 0 ∗ inRest d L 1 ∗ outRest d L 0 ∗ outRest d L 1 ∗ outP d L 0 32 g₀)
      ⊢ wp frame (wpE (defs₀ (F := F)) 𝒱₀ (th d L) none) Set.univ
          (cc0_gather_kernel L yV (Memref.isWhole_whole _) iV (Memref.isWhole_whole _) oV (Memref.isWhole_whole _) sV (Memref.isWhole_whole _) cc0_scoped1
            rV (Memref.isWhole_whole _) cc0_scoped3 cc0_scoped4)
          fun _ => iprop(gatC d L ∗ owed d L O W ∗ inRest d L 0 ∗ inRest d L 1 ∗ outRest d L 0 ∗ outRest d L 1 ∗ outP d L 0 32 (G Y I)) := by
  iintro ⟨#Hmw, Ht, Hi, Hg, HO, Hin0, Hin1, Hout0, Hout1, Hnew⟩
  simp only [cc0_gather_kernel_eq_skeleton]
  unfold cc0_gather_kernel_skel
  simp only [k0_part3_eq_skeleton, k0_part4_eq_skeleton]
  unfold k0_part3_skel k0_part4_skel
  simp only [wp_bind, wp_pure, Prog.lift]
  icases Hin0 with ⟨Hlst, Hinc⟩
  iapply (startIn I d L 0 (Ring.sl 2 0) (c_off2 L) c_off1 (congrArg SemArray.sem c_off3)) $$ [Hi Hlst Hinc]
  · isplitl [Hi]; · iexact Hi
    isplitl [Hlst]; · iexact Hlst
    iexact Hinc
  iintro ⟨HinS, Hi⟩
  rw [wp_ret]; imodintro; imodintro
  ihave HinS := (Entails.of_eq (inSt_pos I d L (show 0 < 32 by decide) _).symm) $$ HinS
  sl_for (inv Y I g₀ q d L O W) $$ [Ht Hi Hg HO HinS Hin1 Hout0 Hout1 Hnew]
  case region =>
    intro k acc
    exact trip Y I g₀ q d L O W hI k acc
  unfold inv
  isplitl [Ht Hi Hg HO HinS Hin1 Hout0 Hout1 Hnew]
  · isplitr; · ipureintro; rfl
    isplitr; · iexact Hmw
    isplitl [Ht]; · iexact Ht
    isplitl [Hi]; · iexact Hi
    isplitl [Hg]; · iexact Hg
    isplitl [HO]; · iexact HO
    isplitl [HinS]; · iexact HinS
    isplitl [Hin1]; · iexact Hin1
    isplitl [Hout0]; · iexact Hout0
    isplitl [Hout1]; · iapply (Entails.of_eq (outSt_neg Y I d L (show ¬ 0 < 0 by decide) _).symm); iexact Hout1
    isplitl [Hnew]; · iexact Hnew
    iapply (outP_empty d L 0 (G Y I)); iempintro
  irw [show Scf.trips k0_t1_loop.lb k0_t1_loop.ub k0_t1_loop.st = 32 from by decide +kernel]
  iintro %acc ⟨%hacc, -, -, -, Hg, HO, HinS, Hin1, Hout0, HoutS, -, Hold⟩
  subst hacc
  dsimp only
  ihave Hin0 := (Entails.of_eq (inSt_neg I d L (show ¬ 32 < 32 by decide) _)) $$ HinS
  ihave HoutS := (Entails.of_eq (outSt_pos Y I d L (show 0 < 32 by decide) _)) $$ HoutS
  iapply (wp_assume 𝒱₀ (th d L) none Set.univ (chk5 L))
  rw [wp_ret]; imodintro
  iapply (wp_assume 𝒱₀ (th d L) none Set.univ chk4)
  rw [wp_ret]; imodintro
  imodintro
  iapply (endOut Y I d L O W 31 (Ring.sl 2 31) (c_off19 L _) (congrArg SemArray.sem (c_off20 _))) $$ [HoutS HO]
  · isplitl [HoutS]; · iexact HoutS
    isplitl [HO]; · iexact HO
    iexact Hmw
  iintro ⟨Hrow, Hblk, Houtc, HO⟩
  rw [wp_ret]; imodintro; imodintro
  ihave Hold := (outP_join d L (show 0 ≤ 31 by decide) (show 31 ≤ 32 by decide) (G Y I)) $$ [Hold Hblk]
  · isplitl [Hold] <;> iassumption
  isplitl [Hg]; · iexact Hg
  isplitl [HO]; · iexact HO
  isplitl [Hin0]; · iexact Hin0
  isplitl [Hin1]; · iexact Hin1
  isplitl [Hout0]; · iexact Hout0
  isplitl [Hrow Houtc]
  · isplitl [Hrow]; · iexact Hrow
    iexact Houtc
  iexact Hold

end Cert.Proof.Gather

end
-- ==== Proof.Launch.lean ====
/- What the launch hands each worker and takes back, and each worker's duty: a share of the table and of the positions and
   its own rows of the result, the rows given back gathered. -/
module

public import proofs.«01_k».proof.Proof.Task

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## An array read by many -/

/-- Some share of an array. -/
abbrev some1 (ℓ : Loc nD τ sig) (f : Buf (Elt F) ℓ) : sProp 𝕄 := iprop(∃ q, ℓ ↦{q} f)

/-- Some share of an array is some share for each of finitely many. -/
theorem deal {A : Type} [DecidableEq A] (s : Finset A) (ℓ : Loc nD τ sig) (f : Buf (Elt F) ℓ) : some1 ℓ f ⊢ bigSep s fun _ => some1 ℓ f := by
  induction s using Finset.induction_on with
  | empty => rw [bigSep_empty]; show _ ⊢ iprop(emp); iintro -; iempintro
  | insert a s ha ih =>
    rw [SparseCore.bigSep_insert' ha]
    iintro ⟨%q, H⟩
    ihave H' := (pointsTo_share (PosShare.mem_left_op_right q)).1 $$ H
    icases H' with ⟨H1, H2⟩
    isplitl [H1]; · iexists q.left; iexact H1
    iapply ih; iexists q.right; iexact H2

/-! ## What is handed over -/

def coordsV (c : Fin (grid0.bound 0)) (s : Fin (grid0.bound 1)) : grid0.Coords :=
  fun | 0 => c | 1 => s | ⟨_ + 2, h⟩ => absurd h (Nat.not_lt.2 (Nat.le_add_left _ _))

/-- Worker `(c, i)`. -/
abbrev wrk (c : Fin 2) (i : Fin 16) : grid0.Coords := coordsV c i

variable (Y : Dev nD → S163840x2x128.Idx → Elt F .i32) (I : Dev nD → S1x131072.Idx → Elt F .i32) (g₀ : Dev nD → S131072x2x128.Idx → Elt F .i32)

/-- The worker's rows of the result, at `g`. -/
abbrev rowsP (d : Dev nD) (c : Fin 2) (i : Fin 16) (g : S131072x2x128.Idx → Elt F .i32) : sProp 𝕄 := oLoc d ↦[span (wrk c i) 0 32]{fullShare} g

abbrev stP (d : Dev nD) (c : Fin 2) : sProp 𝕄 := iprop(some1 (yLoc d) (Y d) ∗ some1 (iLoc d) (I d) ∗ bigSep Finset.univ fun i : Fin 16 => rowsP d c i (g₀ d))
abbrev dnP (d : Dev nD) (c : Fin 2) : sProp 𝕄 := bigSep Finset.univ fun i : Fin 16 => rowsP d c i (G (Y d) (I d))
abbrev goP (d : Dev nD) (c : Fin 2) (i : Fin 16) : sProp 𝕄 := iprop(some1 (yLoc d) (Y d) ∗ some1 (iLoc d) (I d) ∗ rowsP d c i (g₀ d))
abbrev tdP (d : Dev nD) (c : Fin 2) (i : Fin 16) : sProp 𝕄 := rowsP d c i (G (Y d) (I d))

def P : (K (F := F)).Pay (nD := nD) (Val := Elt F) (Name := ℕ) (U := UU) where
  st := fun q d c => match q with | 0 => stP Y I g₀ d (Fin.cast nCore_zero c)
  dn := fun q d c => match q with | 0 => dnP Y I d (Fin.cast nCore_zero c)
  go := fun q d c i => match q with | 0 => goP Y I g₀ d (Fin.cast nCore_zero c) (Fin.cast nSub_zero i)
  td := fun q d c i => match q with | 0 => tdP Y I d (Fin.cast nCore_zero c) (Fin.cast nSub_zero i)
  x := fun _ _ => iprop(emp)

instance P_storable : (P (F := F) Y I g₀).IsStorable where
  st q d c := match q with | 0 => (inferInstance : BI.Storable (upEmb : UEmb _ 𝕄) (stP Y I g₀ d (Fin.cast nCore_zero c)))
  dn q d c := match q with | 0 => (inferInstance : BI.Storable (upEmb : UEmb _ 𝕄) (dnP Y I d (Fin.cast nCore_zero c)))
  go q d c i := match q with | 0 => (inferInstance : BI.Storable (upEmb : UEmb _ 𝕄) (goP Y I g₀ d (Fin.cast nCore_zero c) (Fin.cast nSub_zero i)))
  td q d c i := match q with | 0 => (inferInstance : BI.Storable (upEmb : UEmb _ 𝕄) (tdP Y I d (Fin.cast nCore_zero c) (Fin.cast nSub_zero i)))

/-! ## A worker's own memory -/

section Own

variable (d : Dev nD) (L : grid0.Coords)

abbrev dcell (n : DmaSem sig) : GSem nD τ sig := (th d L, .dma n)

theorem dcell_mem (n : DmaSem sig) (h : (SemLoc.dma n : SemLoc sig).isScoped .scVector = true) : dcell d L n ∈ ownCells (th d L) :=
  mem_ownCells.mpr ⟨rfl, h⟩

/-- The five cells the worker counts on, and the rest. -/
def restCells : Finset (GSem nD τ sig) :=
  (((((ownCells (th d L)).erase (dcell d L (inA 0).sem)).erase (dcell d L (inA 1).sem)).erase (dcell d L (outA 0).sem)).erase (dcell d L (outA 1).sem)).erase (dcell d L cc0_scoped4.sem)

theorem dcell_ne {a b : DmaSem sig} (h : a ≠ b) : dcell d L a ≠ dcell d L b := fun e => h (SemLoc.dma.inj (Prod.mk.inj e).2)

theorem ownSems0_V :
    (ownSems0 (th d L) : sProp 𝕄)
      = iprop(inC d L 0 ∗ inC d L 1 ∗ outC d L 0 ∗ outC d L 1 ∗ gatC d L ∗ bigSep (restCells d L) fun g => semVal g 0) := by
  unfold SparseCore.Cfg.ownSems0 restCells inC outC gatC
  rw [SparseCore.bigSep_erase' (dcell_mem d L (inA 0).sem (by decide)),
    SparseCore.bigSep_erase' (i := dcell d L (inA 1).sem) (by
      repeat' first | exact dcell_mem d L _ (by decide) | refine Finset.mem_erase.mpr ⟨dcell_ne d L (by decide), ?_⟩),
    SparseCore.bigSep_erase' (i := dcell d L (outA 0).sem) (by
      repeat' first | exact dcell_mem d L _ (by decide) | refine Finset.mem_erase.mpr ⟨dcell_ne d L (by decide), ?_⟩),
    SparseCore.bigSep_erase' (i := dcell d L (outA 1).sem) (by
      repeat' first | exact dcell_mem d L _ (by decide) | refine Finset.mem_erase.mpr ⟨dcell_ne d L (by decide), ?_⟩),
    SparseCore.bigSep_erase' (i := dcell d L cc0_scoped4.sem) (by
      repeat' first | exact dcell_mem d L _ (by decide) | refine Finset.mem_erase.mpr ⟨dcell_ne d L (by decide), ?_⟩)]

/-- The two scratch buffers, and the rest. -/
theorem ownBufs_V :
    (ownBufs (th d L) : sProp 𝕄)
      = iprop((∃ f, (th d L).loc cc0_scoped0 ↦{fullShare} f) ∗ (∃ f, (th d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A scratch buffer whole is its two slots, and back. -/
theorem idx_apart : iprop(∃ f, (th d L).loc cc0_scoped0 ↦{fullShare} f) ⊢ (iprop((∃ f, lstP d L 0 f) ∗ ∃ f, lstP d L 1 f) : sProp 𝕄) :=
  Ring.slots2_split (U := UU) (ℓ := sV.view.loc (th d L)) (q := fullShare) idxSet idx_disjoint idx_cover (lstP d L 0) (lstP d L 1) (fun _ => rfl) (fun _ => rfl)
theorem idx_together : (iprop((∃ f, lstP d L 0 f) ∗ ∃ f, lstP d L 1 f) : sProp 𝕄) ⊢ iprop(∃ f, (th d L).loc cc0_scoped0 ↦{fullShare} f) :=
  Ring.slots2_join (U := UU) (ℓ := sV.view.loc (th d L)) (q := fullShare) idxSet idx_disjoint idx_cover (lstP d L 0) (lstP d L 1) (fun _ => rfl) (fun _ => rfl)
theorem row_apart : iprop(∃ f, (th d L).loc cc0_scoped2 ↦{fullShare} f) ⊢ (iprop((∃ f, rowP d L 0 f) ∗ ∃ f, rowP d L 1 f) : sProp 𝕄) :=
  Ring.slots2_split (U := UU) (ℓ := rV.view.loc (th d L)) (q := fullShare) rowSet row_disjoint row_cover (rowP d L 0) (rowP d L 1) (fun _ => rfl) (fun _ => rfl)
theorem row_together : (iprop((∃ f, rowP d L 0 f) ∗ ∃ f, rowP d L 1 f) : sProp 𝕄) ⊢ iprop(∃ f, (th d L).loc cc0_scoped2 ↦{fullShare} f) :=
  Ring.slots2_join (U := UU) (ℓ := rV.view.loc (th d L)) (q := fullShare) rowSet row_disjoint row_cover (rowP d L 0) (rowP d L 1) (fun _ => rfl) (fun _ => rfl)

end Own

variable [FloatOps F]

set_option maxHeartbeats 4000000 in
theorem tile_body (hF : (K (F := F)).Facts) (d : Dev nD) (L : grid0.Coords) (hI : ∀ j, (I d j).toNat < 163840) (O : CellTallies nD τ sig (HIx 1))
    (W : Waits sig (HIx 1)) (hO : ∀ g, O g none = 0) :
    iprop(levAts (K (F := F)).L (K (F := F)).lev ∗ emp
        ∗ (some1 (yLoc d) (Y d) ∗ some1 (iLoc d) (I d) ∗ oLoc d ↦[span L 0 32]{fullShare} g₀ d)
        ∗ scopedBufs (th d L) ∗ scopedSems0 (th d L) ∗ owes (th d L) O W)
      ⊢ wp frame (wpE (defs₀ (F := F)) 𝒱₀ (th d L) none) Set.univ
          (cc0_gather_kernel L yV (Memref.isWhole_whole _) iV (Memref.isWhole_whole _) oV (Memref.isWhole_whole _) sV (Memref.isWhole_whole _) cc0_scoped1
            rV (Memref.isWhole_whole _) cc0_scoped3 cc0_scoped4)
          fun _ => iprop((oLoc d ↦[span L 0 32]{fullShare} G (Y d) (I d)) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), ownSems0_V, ownBufs_V]
  have hw := fun q => work (Y d) (I d) (g₀ d) q d L O W hI
  unfold tabP posP owed outP at hw
  iintro ⟨#Hlv, -, ⟨⟨%q, Hy⟩, Hi, Ho⟩, ⟨Hs, Hr, Hbufs⟩, ⟨Ha, Hb, Hc, He, Hg, Hsems⟩, HO⟩
  ihave Hmw := (show levAts (K (F := F)).L (K (F := F)).lev ⊢ Transfers.MayWaits (th d L) (default : HIx 1) O from
    (K (F := F)).mayWaits_none (thr := th d L) hO) $$ Hlv
  ihave Hs := (idx_apart (F := F) d L) $$ Hs
  icases Hs with ⟨Hs0, Hs1⟩
  ihave Hr := (row_apart (F := F) d L) $$ Hr
  icases Hr with ⟨Hr0, Hr1⟩
  iapply (wp_wand_r Idealize.ShloMosaic.frame (wpE (defs₀ (F := F)) 𝒱₀ (th d L) none) Set.univ)
  isplitl [Hy Hi Ho Hs0 Hs1 Hr0 Hr1 Ha Hb Hc He Hg HO]
  · iapply (hw q)
    isplitr; · iexact Hmw
    isplitl [Hy]; · iexact Hy
    isplitl [Hi]; · iexact Hi
    isplitl [Hg]; · iexact Hg
    isplitl [HO]
    · iexists W
      isplitr; · ipureintro; exact fun p hp => Or.inl hp
      iexact HO
    isplitl [Hs0 Ha]
    · isplitl [Hs0]; · iexact Hs0
      iexact Ha
    isplitl [Hs1 Hb]
    · isplitl [Hs1]; · iexact Hs1
      iexact Hb
    isplitl [Hr0 Hc]
    · isplitl [Hr0]; · iexact Hr0
      iexact Hc
    isplitl [Hr1 He]
    · isplitl [Hr1]; · iexact Hr1
      iexact He
    iexact Ho
  iintro %_ ⟨Hg, HO, ⟨Hs0, Ha⟩, ⟨Hs1, Hb⟩, ⟨Hr0, Hc⟩, ⟨Hr1, He⟩, Ho⟩
  ihave Hs := (idx_together (F := F) d L) $$ [Hs0 Hs1]
  · isplitl [Hs0] <;> iassumption
  ihave Hr := (row_together (F := F) d L) $$ [Hr0 Hr1]
  · isplitl [Hr0] <;> iassumption
  isplitl [Ho]; · iexact Ho
  isplitl [Hs Hr Hbufs]
  · isplitl [Hs]; · iexact Hs
    isplitl [Hr]; · iexact Hr
    iexact Hbufs
  isplitl [Ha Hb Hc He Hg Hsems]
  · isplitl [Ha]; · iexact Ha
    isplitl [Hb]; · iexact Hb
    isplitl [Hc]; · iexact Hc
    isplitl [He]; · iexact He
    isplitl [Hg]; · iexact Hg
    iexact Hsems
  iexact HO

/-! ## The duty -/

theorem defs₀_vector (c : Fin τ.nSC) (s : Fin τ.nSub) :
    defs₀ (F := F) (.scVector c s) 0 ()
      = SparseCore.onTile hcore0 hsub0 (fun c s => cc0_gather_kernel (coordsV c s)
          yV (Memref.isWhole_whole _) iV (Memref.isWhole_whole _) oV (Memref.isWhole_whole _) sV (Memref.isWhole_whole _) cc0_scoped1
          rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, (I d j).toNat < 163840) : (K (F := F)).TileObl (D (F := F)) 𝒱 (P Y I g₀) v₀ 0 := by
  intro d c i O W hO _ _
  simp only [show (P Y I g₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Y I g₀ hF d (coordsV ⟨_, hci.1⟩ ⟨_, hci.2⟩) (hI d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P Y I g₀) 0 := by
  intro d c
  show stP Y I g₀ d (Fin.cast nCore_zero c) ⊢ |={Set.univ}=> iprop(
      (bigSep Finset.univ fun i : Fin ((K (F := F)).nSub 0) => goP Y I g₀ d (Fin.cast nCore_zero c) (Fin.cast nSub_zero i))
      ∗ ((bigSep Finset.univ fun i : Fin ((K (F := F)).nSub 0) => tdP Y I d (Fin.cast nCore_zero c) (Fin.cast nSub_zero i))
          -∗ dnP Y I d (Fin.cast nCore_zero c)))
  rw [bigSep_tasks (F := F) (fun i => goP Y I g₀ d (Fin.cast nCore_zero c) i), bigSep_tasks (F := F) (fun i => tdP Y I d (Fin.cast nCore_zero c) i),
    bigSep_sep', bigSep_sep']
  iintro ⟨Hy, Hi, Ho⟩; imodintro
  isplitl [Hy Hi Ho]
  · isplitl [Hy]; · iapply (deal Finset.univ (yLoc d) (Y d)); iexact Hy
    isplitl [Hi]; · iapply (deal Finset.univ (iLoc d) (I d)); iexact Hi
    iexact Ho
  iintro H; iexact H

end Cert.Proof.Gather

end
-- ==== Proof.Main.lean ====
/- The whole program: the table and the positions laid out, the rows gathered, the result laid out. -/
module

public import proofs.«01_k».proof.Proof.Launch
public import Idealize.ShloMosaic.Lib.StableHlo.Run

@[expose] public section

noncomputable section

namespace Cert.Proof.Gather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays of `main` -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev cLoc (d : Dev nD) : Loc nD τ sig := (SparseCore.T d).loc main_v1
abbrev rLoc (d : Dev nD) : Loc nD τ sig := (SparseCore.T d).loc main_v4

abbrev opY : HloOp τ sig (Elt F) := StableHlo.reshape main_arg0 main_v0 (rfl : (.i32 : EltTy) = .i32) shapeCasts_S163840x256_S163840x2x128
abbrev opC : HloOp τ sig (Elt F) := StableHlo.binary main_arg1 main_arg2 main_v1
  ((fun a b => concatenate S131072 0 [⟨S65536, a⟩, ⟨S65536, b⟩] concatenates_S65536_S65536_S131072_d0) : (⟨S65536, .i32⟩ : BufTy).Contents (Elt F) → (⟨S65536, .i32⟩ : BufTy).Contents (Elt F) → (⟨S131072, .i32⟩ : BufTy).Contents (Elt F))
abbrev opI : HloOp τ sig (Elt F) := StableHlo.reshape main_v1 main_v2 (rfl : (.i32 : EltTy) = .i32) shapeCasts_S131072_S1x131072
abbrev opR : HloOp τ sig (Elt F) := StableHlo.reshape main_v3 main_v4 (rfl : (.i32 : EltTy) = .i32) shapeCasts_S131072x2x128_S131072x256

abbrev S8 : Finset (DevRef τ sig) := {a0', a1', a2', v0', v1', v2', v3', v4'}

theorem held_S8 (d : Dev nD) (W : Valuation τ sig (Elt F)) :
    (held (T d) S8 W : sProp 𝕄)
      = iprop((a0Loc d ↦{fullShare} W a0') ∗ (a1Loc d ↦{fullShare} W a1') ∗ (a2Loc d ↦{fullShare} W a2') ∗ (yLoc d ↦{fullShare} W v0')
          ∗ (cLoc d ↦{fullShare} W v1') ∗ (iLoc d ↦{fullShare} W v2') ∗ (oLoc d ↦{fullShare} W v3') ∗ rLoc d ↦{fullShare} W v4') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (yLoc d ↦{fullShare} W main_v0)
          ∗ (cLoc d ↦{fullShare} W main_v1) ∗ (iLoc d ↦{fullShare} W main_v2) ∗ (oLoc d ↦{fullShare} W main_v3) ∗ rLoc d ↦{fullShare} W main_v4) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- At the launch, before the call, after it, and at the end. -/
def V0 (d : Dev nD) : Valuation τ sig (Elt F) := fun b => m (d, b)
def V3 (d : Dev nD) : Valuation τ sig (Elt F) := (opI (F := F)).result ((opC (F := F)).result ((opY (F := F)).result (V0 m d)))
def Yv (d : Dev nD) : S163840x2x128.Idx → Elt F .i32 := V3 m d v0'
def Iv (d : Dev nD) : S1x131072.Idx → Elt F .i32 := V3 m d v2'
def Gv (d : Dev nD) : S131072x2x128.Idx → Elt F .i32 := V3 m d v3'
def V4 (d : Dev nD) : Valuation τ sig (Elt F) := Function.update (V3 m d) v3' (G (Yv m d) (Iv m d))
/-- The result. -/
def Rv (d : Dev nD) : Buf (Elt F) (rLoc d) := fun i => shapeCast S131072x256 (G (Yv m d) (Iv m d)) shapeCasts_S131072x2x128_S131072x256 i

theorem unscoped_held (d : Dev nD) : (unscopedBufs d (fun b => m ((SparseCore.T d).loc b)) : sProp 𝕄) = held (T d) S8 (V0 m d) := by
  rw [unscopedBufs_eq, held_S8]; unfold V0; rfl

theorem V3_arg (d : Dev nD) (b : DevRef τ sig) (h0 : b ≠ v0') (h1 : b ≠ v1') (h2 : b ≠ v2') : V3 m d b = m (d, b) := by
  unfold V3
  rw [(opI (F := F)).result_of_not_mem _ (show b ∉ ({v2'} : Finset (DevRef τ sig)) from fun h => h2 (Finset.mem_singleton.mp h)),
    (opC (F := F)).result_of_not_mem _ (show b ∉ ({v1'} : Finset (DevRef τ sig)) from fun h => h1 (Finset.mem_singleton.mp h)),
    (opY (F := F)).result_of_not_mem _ (show b ∉ ({v0'} : Finset (DevRef τ sig)) from fun h => h0 (Finset.mem_singleton.mp h))]
  rfl

/-- The table as laid out, and the positions. -/
theorem Yv_eq (d : Dev nD) : Yv m d = fun i => shapeCast S163840x2x128 (m (a0Loc d)) shapeCasts_S163840x256_S163840x2x128 i := by
  unfold Yv V3
  rw [(opI (F := F)).result_of_not_mem _ (show v0' ∉ ({v2'} : Finset (DevRef τ sig)) by decide),
    (opC (F := F)).result_of_not_mem _ (show v0' ∉ ({v1'} : Finset (DevRef τ sig)) by decide)]
  exact StableHlo.reshape_result _ _ _ _ _ _ _
theorem Iv_eq (d : Dev nD) : Iv m d = fun i => shapeCast S1x131072
    (concatenate S131072 0 [⟨S65536, m (a1Loc d)⟩, ⟨S65536, m (a2Loc d)⟩] concatenates_S65536_S65536_S131072_d0) shapeCasts_S131072_S1x131072 i := by
  unfold Iv V3
  refine (StableHlo.reshape_result _ _ _ _ _ _ _).trans ?_
  rw [show (opC (F := F)).result ((opY (F := F)).result (V0 m d)) v1'
      = concatenate S131072 0 [⟨S65536, m (a1Loc d)⟩, ⟨S65536, m (a2Loc d)⟩] concatenates_S65536_S65536_S131072_d0 from
    (StableHlo.binary_result _ _ _ _ _ _ _ _).trans (by
      rw [(opY (F := F)).result_of_not_mem _ (show a1' ∉ ({v0'} : Finset (DevRef τ sig)) by decide),
        (opY (F := F)).result_of_not_mem _ (show a2' ∉ ({v0'} : Finset (DevRef τ sig)) by decide)]
      rfl)]
  rfl

theorem held_V3 (d : Dev nD) :
    (held (T d) S8 ((opI (F := F)).result ((opC (F := F)).result ((opY (F := F)).result (V0 m d)))) : sProp 𝕄)
      = iprop((a0Loc d ↦{fullShare} m (a0Loc d)) ∗ (a1Loc d ↦{fullShare} m (a1Loc d)) ∗ (a2Loc d ↦{fullShare} m (a2Loc d)) ∗ (yLoc d ↦{fullShare} Yv m d)
          ∗ (cLoc d ↦{fullShare} V3 m d v1') ∗ (iLoc d ↦{fullShare} Iv m d) ∗ (oLoc d ↦{fullShare} Gv m d) ∗ rLoc d ↦{fullShare} V3 m d v4') := by
  show held (SparseCore.T d) S8 (V3 m d) = _
  rw [held_S8, V3_arg m d a0' (by decide) (by decide) (by decide), V3_arg m d a1' (by decide) (by decide) (by decide), V3_arg m d a2' (by decide) (by decide) (by decide)]
  rfl

abbrev S2 : Finset (DevRef τ sig) := {v3', v4'}

theorem held_S2 (d : Dev nD) (W : Valuation τ sig (Elt F)) :
    (held (T d) S2 W : sProp 𝕄) = iprop((oLoc d ↦{fullShare} W v3') ∗ rLoc d ↦{fullShare} W v4') := by
  unfold held S2
  rw [SparseCore.bigSep_insert' (by decide), bigSep_singleton]
theorem held_V5 (d : Dev nD) :
    (held (T d) S2 ((opR (F := F)).result (V4 m d)) : sProp 𝕄)
      = iprop((oLoc d ↦{fullShare} (opR (F := F)).result (V4 m d) v3') ∗ rLoc d ↦{fullShare} Rv m d) := by
  rw [held_S2, show (opR (F := F)).result (V4 m d) v4' = Rv m d from (StableHlo.reshape_result _ _ _ _ _ _ _).trans (by
    rw [show V4 m d v3' = G (Yv m d) (Iv m d) from Function.update_self _ _ _]; rfl)]

theorem hY : (opY (F := F)).bufs ⊆ S8 := show ({a0', v0'} : Finset (DevRef τ sig)) ⊆ S8 by decide
theorem hC : (opC (F := F)).bufs ⊆ S8 := show ({a1', a2', v1'} : Finset (DevRef τ sig)) ⊆ S8 by decide
theorem hI : (opI (F := F)).bufs ⊆ S8 := show ({v1', v2'} : Finset (DevRef τ sig)) ⊆ S8 by decide
theorem hR : (opR (F := F)).bufs ⊆ S2 := show ({v3', v4'} : Finset (DevRef τ sig)) ⊆ S2 by decide

/-! ## The result is the workers' rows -/

abbrev wrkSet (x : Fin 2 × Fin 16) : Finset S131072x2x128.Idx := span (wrk x.1 x.2) 0 32

theorem wk_wrk (c : Fin 2) (i : Fin 16) : wk (wrk c i) = 16 * c.val + i.val := rfl
theorem rows_disjoint : ∀ x ∈ (Finset.univ : Finset (Fin 2 × Fin 16)), ∀ y ∈ (Finset.univ : Finset (Fin 2 × Fin 16)), x ≠ y → Disjoint (wrkSet x) (wrkSet y) := by
  intro x _ y _ h
  rw [Finset.disjoint_left]
  intro j hx hy
  have hx : 32 * (16 * x.1.val + x.2.val) + 0 ≤ (j 0).val / 128 ∧ (j 0).val / 128 < 32 * (16 * x.1.val + x.2.val) + 32 := (Finset.mem_filter.mp hx).2
  have hy : 32 * (16 * y.1.val + y.2.val) + 0 ≤ (j 0).val / 128 ∧ (j 0).val / 128 < 32 * (16 * y.1.val + y.2.val) + 32 := (Finset.mem_filter.mp hy).2
  have := x.2.isLt; have := y.2.isLt
  exact h (Prod.ext (Fin.ext (by omega)) (Fin.ext (by omega)))
theorem rows_cover : (Finset.univ : Finset (Fin 2 × Fin 16)).biUnion wrkSet = Finset.univ := by
  refine Finset.eq_univ_of_forall fun j => ?_
  have hj : (j 0).val < 131072 := (j 0).isLt
  refine Finset.mem_biUnion.mpr ⟨(⟨(j 0).val / 65536, by omega⟩, ⟨(j 0).val / 4096 % 16, by omega⟩), Finset.mem_univ _, ?_⟩
  refine Finset.mem_filter.mpr ⟨Finset.mem_univ _, ?_⟩
  show 32 * (16 * ((j 0).val / 65536) + (j 0).val / 4096 % 16) + 0 ≤ (j 0).val / 128 ∧ (j 0).val / 128 < 32 * (16 * ((j 0).val / 65536) + (j 0).val / 4096 % 16) + 32
  generalize (j 0).val = n at hj ⊢
  omega

theorem out_rows (d : Dev nD) (g : S131072x2x128.Idx → Elt F .i32) :
    (oLoc d ↦{fullShare} g : sProp 𝕄) = bigSep Finset.univ fun c : Fin 2 => bigSep Finset.univ fun i : Fin 16 => rowsP d c i g := by
  rw [← bigSep_univ_prod (fun x : Fin 2 × Fin 16 => (rowsP d x.1 x.2 g : sProp 𝕄)), ← pointsTo_biUnion Finset.univ (ℓ := oLoc d) wrkSet rows_disjoint, rows_cover]

/-! ## The launch's ghost state -/

def u₀ : UU := (initOf (K (F := F)).hsCells (K (F := F)).hsToks, 1)

theorem emps {A : Type} (s : Finset A) : (bigSep s fun _ => iprop(emp)) = (iprop(emp) : sProp 𝕄) := bigSep_emp_const s

variable [FloatOps F]

abbrev PM : (K (F := F)).Pay (nD := nD) (Val := Elt F) (Name := ℕ) (U := UU) := P (Yv m) (Iv m) (Gv m)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), emps]
  iempintro

theorem st0_eq (d : Dev nD) : (bigSep Finset.univ fun c : Fin ((K (F := F)).nCore 0) => (PM m).st 0 d c)
    = iprop((bigSep Finset.univ fun _ : Fin 2 => some1 (yLoc d) (Yv m d)) ∗ (bigSep Finset.univ fun _ : Fin 2 => some1 (iLoc d) (Iv m d)) ∗ oLoc d ↦{fullShare} Gv m d) := by
  refine (bigSep_cores (F := F) (fun c => stP (Yv m) (Iv m) (Gv m) d c)).trans ?_
  rw [bigSep_sep', bigSep_sep', out_rows]
theorem dn0_eq (d : Dev nD) : (bigSep Finset.univ fun c : Fin ((K (F := F)).nCore 0) => (PM m).dn 0 d c) = (oLoc d ↦{fullShare} G (Yv m d) (Iv m d) : sProp 𝕄) := by
  refine (bigSep_cores (F := F) (fun c => dnP (Yv m) (Iv m) d c)).trans ?_
  rw [out_rows]

/-- What is left: the arguments as they were, the result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ rLoc d ↦{fullShare} Rv m d)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opY) (S := S8) hY (V := V0 m d)) $$ [Hb Hheld]
  · isplitl [Hb] <;> iassumption
  iintro ⟨Hb, Hheld⟩
  rw [wp_ret]; imodintro
  iapply (wp_hlo_within 𝒱 (SparseCore.T d) none Set.univ (op := opC) (S := S8) hC (V := (opY (F := F)).result (V0 m d))) $$ [Hb Hheld]
  · isplitl [Hb] <;> iassumption
  iintro ⟨Hb, Hheld⟩
  rw [wp_ret]; imodintro
  iapply (wp_hlo_within 𝒱 (SparseCore.T d) none Set.univ (op := opI) (S := S8) hI (V := (opC (F := F)).result ((opY (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨H0, H1, H2, Hy, -, Hi, Ho, Hr⟩
  iapply ((K (F := F)).wp_run (D (F := F)) 𝒱 (EH := EH) (P := PM m) κ d 0) $$ [Hst H0 H1 H2 Hy Hi Ho Hr Hb Hts]
  isplitr; · iexact Hctx
  isplitl [Hst]; · iexact Hst
  isplitl [Hy Hi Ho]
  · rw [st0_eq]
    isplitl [Hy]; · iapply (deal Finset.univ (yLoc d) (Yv m d)); iexists fullShare; iexact Hy
    isplitl [Hi]; · iapply (deal Finset.univ (iLoc d) (Iv m d)); iexists fullShare; iexact Hi
    iexact Ho
  iintro ⟨Hst, Hdn⟩
  ihave Ho := (Entails.of_eq (dn0_eq m d)) $$ Hdn
  iapply (wp_hlo_within 𝒱 (SparseCore.T d) none Set.univ (op := opR) (S := S2) hR (V := V4 m d)) $$ [Hb Ho Hr]
  · isplitl [Hb]; · iexact Hb
    rw [held_S2, show V4 m d v3' = G (Yv m d) (Iv m d) from Function.update_self _ _ _,
      show V4 m d v4' = V3 m d v4' from Function.update_of_ne (show v4' ≠ v3' by decide) _ _]
    isplitl [Ho]; · iexact Ho
    iexact Hr
  iintro ⟨Hb, Hheld⟩
  ihave Hh := (Entails.of_eq (held_V5 (F := F) m d)) $$ Hheld
  icases Hh with ⟨-, Hr⟩
  rw [wp_ret]; imodintro; imodintro
  isplitl [Hst]; · iexact Hst
  isplitr [Hb Hts]
  · isplitl [H0]; · iexact H0
    isplitl [H1]; · iexact H1
    isplitl [H2]; · iexact H2
    iexact Hr
  isplitl [Hb] <;> iassumption

def fq (d : Dev nD) (s' : Phys nD τ sig (Elt F)) : Prop :=
  s'.mem.mem (rLoc d) = Rv m d ∧ s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => h0 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (rLoc c) = Rv m c ∧ r.2.mem (a0Loc c) = m (a0Loc c) ∧ r.2.mem (a1Loc c) = m (a1Loc c) ∧ r.2.mem (a2Loc c) = m (a2Loc c)) ∧ r.2.sem = fun _ => 0

theorem run_main [∀ e, Nonempty (Elt F e)] (hpre : ∀ d j, (Iv m d j).toNat < 163840) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (Yv m) (Iv m) (Gv m) facts hpre)
    (fun q _ => match q with | 0 => SparseCore.Cfg.VecSplit.of_plain (vecSplit (Yv m) (Iv m) (Gv m)))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Rows.lean ====
/- The rows the kernel leaves are the rows plain indexing reads: from positions that name rows of the table. -/
module

public import proofs.«01_k».proof.Proof.Main
public import proofs.«01_k».proof.Proof.Gen.ReferenceIdeal
public import proofs.«01_k».proof.Proof.Gen.Pre_positions_name_rows
public import Idealize.ShloMosaic.Lib.Routing.Ops
public import Idealize.ShloMosaic.Lib.Pipeline.Value

@[expose] public section

noncomputable section

namespace Cert.Proof.Gather

open Cert.Kernel Cert.Kernel.Gen

open Idealize.ShloMosaic

set_option maxRecDepth 20000

variable {F : FTy → Type} [FloatOps F]

/-- The two lists of positions, one after the other. -/
abbrev cat (a b : S65536.Idx → BitVec 32) : S131072.Idx → BitVec 32 :=
  concatenate S131072 0 [⟨S65536, a⟩, ⟨S65536, b⟩] concatenates_S65536_S65536_S131072_d0

theorem cat_mem (a b : S65536.Idx → BitVec 32) (j : S131072.Idx) : (∃ i, cat a b j = a i) ∨ ∃ i, cat a b j = b i := by
  have hj : (j 0).val < 131072 := (j 0).isLt
  by_cases h : (j 0).val < 65536
  · refine .inl ⟨ValueIdx.ix1 (⟨(j 0).val, h⟩ : Fin 65536), ?_⟩
    exact concatenate_pair_apply_left (0 : Fin S131072.rank) a b _ j rfl _ (fun x => by match x with | ⟨0, _⟩ => rfl)
  · refine .inr ⟨ValueIdx.ix1 (⟨(j 0).val - 65536, by omega⟩ : Fin 65536), ?_⟩
    refine concatenate_pair_apply_right (0 : Fin S131072.rank) a b _ j rfl rfl _ (fun x hx => absurd (Subsingleton.elim (α := Fin 1) _ _) hx) ?_
    have e : (j 0).val - 65536 + 65536 = (j 0).val := by omega
    exact e

theorem word_lt (w : BitVec 32) (h0 : IntOp.cmpi .sge w 0#32 = 1#1) (h1 : IntOp.cmpi .slt w 163840#32 = 1#1) : w.toNat < 163840 := by
  have e0 : (0#32).sle w = true := by
    by_contra hc
    rw [Bool.not_eq_true] at hc
    simp [IntOp.cmpi, hc] at h0
  have e1 : w.slt 163840#32 = true := by
    by_contra hc
    rw [Bool.not_eq_true] at hc
    simp [IntOp.cmpi, hc] at h1
  have f0 : (0#32).toInt ≤ w.toInt := of_decide_eq_true e0
  have f1 : w.toInt < (163840#32).toInt := of_decide_eq_true e1
  rw [show (0#32 : BitVec 32).toInt = 0 by decide] at f0
  rw [show (163840#32 : BitVec 32).toInt = 163840 by decide] at f1
  have := w.isLt
  rw [BitVec.toInt_eq_toNat_cond] at f0 f1
  split at f0 <;> omega

theorem andi_one : ∀ a b : BitVec 1, IntOp.andi a b = 1#1 → a = 1#1 ∧ b = 1#1 := by decide

theorem pre_lt (x : S163840x256.Idx → BitVec 32) (a b : S65536.Idx → BitVec 32)
    (h : Cert.Pre_positions_name_rows.fn (F := F) x a b = fun _ => 1#1) (i : S65536.Idx) : (a i).toNat < 163840 ∧ (b i).toNat < 163840 := by
  have h := congrFun h i
  simp only [Cert.Pre_positions_name_rows.fn, andi, cmpi, broadcastInDim, constantI] at h
  obtain ⟨h, h4⟩ := andi_one _ _ h
  obtain ⟨h, h3⟩ := andi_one _ _ h
  obtain ⟨h1, h2⟩ := andi_one _ _ h
  exact ⟨word_lt _ h1 h2, word_lt _ h3 h4⟩

theorem cat_lt (x : S163840x256.Idx → BitVec 32) (a b : S65536.Idx → BitVec 32)
    (h : Cert.Pre_positions_name_rows.fn (F := F) x a b = fun _ => 1#1) (j : S131072.Idx) : (cat a b j).toNat < 163840 := by
  rcases cat_mem a b j with ⟨i, e⟩ | ⟨i, e⟩ <;> rw [e]
  · exact (pre_lt x a b h i).1
  · exact (pre_lt x a b h i).2

/-- A position as the kernel finds it, in its row of positions. -/
theorem Iv_apply (m : (ℓ : Loc nD τ sig) → Buf (Elt F) ℓ) (d : Dev nD) (j : S1x131072.Idx) :
    Iv m d j = cat (m (a1Loc d)) (m (a2Loc d)) (ValueIdx.ix1 (j 1 : Fin 131072)) := by
  rw [Iv_eq]
  refine shapeCast_apply _ _ _ _ ?_
  rw [Shape.rowMajor_val_one, Shape.rowMajor_val_two]
  have : (j 0).val < 1 := (j 0).isLt
  show (j 1).val = (j 0).val * 131072 + (j 1).val
  omega

theorem Rv_apply (m : (ℓ : Loc nD τ sig) → Buf (Elt F) ℓ) (d : Dev nD) (r : Fin 131072) (y : Fin 256) :
    Rv m d (ValueIdx.ix2 r y) = m (a0Loc d) (ValueIdx.ix2 (⟨(cat (m (a1Loc d)) (m (a2Loc d)) (ValueIdx.ix1 r)).toNat % 163840, Nat.mod_lt _ (by decide)⟩ : Fin 163840) y) := by
  unfold Rv
  refine (shapeCast_apply _ _ _ (ValueIdx.ix3 r (⟨y.val / 128, by omega⟩ : Fin 2) (⟨y.val % 128, by omega⟩ : Fin 128)) ?_).trans ?_
  · rw [Shape.rowMajor_val_three, Shape.rowMajor_val_two]
    show (r.val * 2 + y.val / 128) * 128 + y.val % 128 = r.val * 256 + y.val
    omega
  unfold G
  rw [Iv_apply, Yv_eq]
  have e : ValueIdx.ix1 ((posIx r.val) 1 : Fin 131072) = ValueIdx.ix1 r := congrArg ValueIdx.ix1 (Fin.ext (Nat.mod_eq_of_lt r.isLt))
  refine (congrArg (fun p => shapeCast S163840x2x128 (m (a0Loc d)) shapeCasts_S163840x256_S163840x2x128
    (tabIx (cat (m (a1Loc d)) (m (a2Loc d)) p) (ValueIdx.ix3 r (⟨y.val / 128, by omega⟩ : Fin 2) (⟨y.val % 128, by omega⟩ : Fin 128)))) e).trans ?_
  refine shapeCast_apply (s := S163840x256) (t := S163840x2x128) _ _ _ _ ?_
  rw [Shape.rowMajor_val_three, Shape.rowMajor_val_two]
  generalize (cat (m (a1Loc d)) (m (a2Loc d)) (ValueIdx.ix1 r)) = w
  show w.toNat % 163840 * 256 + y.val = (w.toNat % 163840 * 2 + y.val / 128) * 128 + y.val % 128
  omega

/-- The rows by plain indexing: a position below zero would count from the end, and none is. -/
abbrev taken (x : S163840x256.Idx → BitVec 32) (p : S131072.Idx → BitVec 32) : S131072x256.Idx → BitVec 32 :=
  Host.gather Cert.ReferenceIdeal.gather_S163840x256_S131072x1_S131072x256_1_0_n_n_0_1_1256 x
    (broadcastInDim Cert.ReferenceIdeal.S131072x1 ![0] Cert.ReferenceIdeal.Facts₀.bcast_S131072_S131072x1_0
      (select (cmpi .slt p (broadcastInDim S131072 ![] Cert.ReferenceIdeal.Facts₀.bcast_S_S131072 (constantI Cert.ReferenceIdeal.S_ 32 0#32)))
        (addi p (broadcastInDim S131072 ![] Cert.ReferenceIdeal.Facts₀.bcast_S_S131072 (constantI Cert.ReferenceIdeal.S_ 32 163840#32))) p))

theorem taken_apply (x : S163840x256.Idx → BitVec 32) (p : S131072.Idx → BitVec 32) (hp : ∀ j, (p j).toNat < 163840) (r : Fin 131072) (y : Fin 256) :
    taken x p (ValueIdx.ix2 r y) = x (ValueIdx.ix2 (⟨(p (ValueIdx.ix1 r)).toNat % 163840, Nat.mod_lt _ (by decide)⟩ : Fin 163840) y) := by
  refine Routing.gather_row (nb := 163840) (B := 256) (n := 131072) Cert.ReferenceIdeal.gather_S163840x256_S131072x1_S131072x256_1_0_n_n_0_1_1256 rfl rfl rfl rfl rfl x _ r y _ ?_ (by decide)
  have hr := hp (ValueIdx.ix1 r)
  refine (broadcastInDim_apply (s := Cert.ReferenceIdeal.S131072) _ _ _ _ (ValueIdx.ix1 r) (fun a => by match a with | ⟨0, _⟩ => rfl)).trans ?_
  show Scalar.select (IntOp.cmpi .slt (p (ValueIdx.ix1 r)) 0#32) (IntOp.addi (p (ValueIdx.ix1 r)) 163840#32) (p (ValueIdx.ix1 r)) = _
  generalize p (ValueIdx.ix1 r) = w at hr ⊢
  have h : IntOp.cmpi .slt w 0#32 ≠ 1#1 := fun hc => by
    have e1 : w.slt 0#32 = true := by
      by_contra hb
      rw [Bool.not_eq_true] at hb
      simp [IntOp.cmpi, hb] at hc
    have f1 : w.toInt < (0#32).toInt := of_decide_eq_true e1
    rw [show (0#32 : BitVec 32).toInt = 0 by decide, BitVec.toInt_eq_toNat_cond] at f1
    split at f1 <;> omega
  refine (if_neg h).trans ?_
  refine BitVec.eq_of_toNat_eq ?_
  rw [BitVec.toNat_ofNat]
  show w.toNat = w.toNat % 163840 % 2 ^ 32
  omega

theorem Iv_lt (m : (ℓ : Loc nD τ sig) → Buf (Elt F) ℓ) (x : (c : Dev nD) → S163840x256.Idx → BitVec 32)
    (h : ∀ c : Dev nD, Cert.Pre_positions_name_rows.fn (F := F) (x c) (m (a1Loc c)) (m (a2Loc c)) = fun _ => 1#1) (d : Dev nD) (j : S1x131072.Idx) :
    (Iv m d j).toNat < 163840 := by
  rw [Iv_apply]
  exact cat_lt (F := F) (x d) _ _ (h d) _

/-- The kernel's result is the rows by plain indexing. -/
theorem Rv_eq (m : (ℓ : Loc nD τ sig) → Buf (Elt F) ℓ) (d : Dev nD)
    (h : Cert.Pre_positions_name_rows.fn (F := F) (m (a0Loc d)) (m (a1Loc d)) (m (a2Loc d)) = fun _ => 1#1) :
    Rv m d = taken (m (a0Loc d)) (cat (m (a1Loc d)) (m (a2Loc d))) := by
  refine funext fun (i : S131072x256.Idx) => ?_
  rw [ValueIdx.eq_ix2 (n0 := 131072) (n1 := 256) i]
  exact (Rv_apply m d _ _).trans (taken_apply _ _ (cat_lt (F := F) _ _ _ h) _ _).symm

end Cert.Proof.Gather

end
-- ==== Proof.FfnNamed.lean ====
/- From the precondition on the chunks' experts: each chunk's word names one of the 64 experts. -/
module

public import proofs.«01_k».proof.Proof.Gen.Pre_chunks_name_experts

@[expose] public section

noncomputable section

namespace Cert.Proof.Experts

open Idealize.ShloMosaic

variable {F : FTy → Type} [FloatOps F]

theorem both_one : ∀ a b : BitVec 1, IntOp.andi a b = 1#1 → a = 1#1 ∧ b = 1#1 := by decide

/-- A word that is at least zero and below 64 as a signed number is one of 0 to 63. -/
theorem small_word (w : BitVec 32) (hge : IntOp.cmpi .sge w 0#32 = 1#1) (hlt : IntOp.cmpi .slt w 64#32 = 1#1) : w.toNat < 64 := by
  have f0 : (0#32).sle w = true := by
    by_contra hc
    rw [Bool.not_eq_true] at hc
    simp [IntOp.cmpi, hc] at hge
  have f1 : w.slt 64#32 = true := by
    by_contra hc
    rw [Bool.not_eq_true] at hc
    simp [IntOp.cmpi, hc] at hlt
  have g0 : (0#32).toInt ≤ w.toInt := of_decide_eq_true f0
  have g1 : w.toInt < (64#32).toInt := of_decide_eq_true f1
  rw [show (0#32 : BitVec 32).toInt = 0 by decide] at g0
  rw [show (64#32 : BitVec 32).toInt = 64 by decide] at g1
  have := w.isLt
  rw [BitVec.toInt_eq_toNat_cond] at g0 g1
  split at g0 <;> omega

open Cert.Pre_chunks_name_experts in
/-- The precondition, one chunk at a time. -/
theorem named (ce cv : IVec S320 32) (xa xb : FVec F S327680x256 .bf16) (g u : FVec F S64x1024x256 .f32) (d : FVec F S64x256x1024 .f32)
    (h : Cert.Pre_chunks_name_experts.fn ce cv xa xb g u d = fun _ => 1#1) (x : S320.Idx) : (ce x).toNat < 64 := by
  have h := congrFun h x
  simp only [Cert.Pre_chunks_name_experts.fn, andi, cmpi, broadcastInDim, constantI] at h
  obtain ⟨h0, h1⟩ := both_one _ _ h
  exact small_word _ h0 h1

end Cert.Proof.Experts

end
-- ==== Proof.FfnBody.lean ====
/- One grid point of the expert kernel: what the body leaves in the two output blocks and in the three scratches, on
   each of its four ways through (weights loaded anew or kept; rows of an expert or padding). -/
module

public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.FrameBody
public import Idealize.ShloMosaic.Lib.Pipeline.Value
public import Idealize.ShloMosaic.Lib.Ring
public import Idealize.ShloMosaic.Lib.Exec
public import Idealize.ShloMosaic.Lib.Affine
public import Idealize.ShloMosaic.Lib.Tactic
public import Idealize.ShloMosaic.Lib.WritesUnit
public import Idealize.ShloMosaic.Lib.VecWindow
public import Idealize.ShloMosaic.PureOps.Ideal
public import Idealize.ShloMosaic.Adequacy
public import Idealize.ShloMosaic.Init

@[expose] public section

set_option maxRecDepth 16384
set_option Elab.async false

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The float values the kernel computes on. -/
abbrev FV : FTy → Type := Idealize.ShloMosaic.Ideal

/-- The resources a core's assertions speak of. -/
abbrev Res := MT nD τ sig Unit (Elt FV) ℕ (UR sig nD τ) ℕ

/-- The two word tables, whole. -/
abbrev tabE : Memref sig .tc .smem S320 .i32 := Memref.whole main_arg0
abbrev tabV : Memref sig .tc .smem S320 .i32 := Memref.whole main_arg1

/-- A load of one word of each table. -/
abbrev expertAt (T : S320.Idx → Elt FV .i32) (o : Fin 1 → ℕ) (h : ∀ a, o a + S1.size a ≤ S320.size a) : BitVec 32 :=
  View.readAt (Elt FV) tabE.view (Rect.unit (s := S320) o S1.size h).toLoadRect T
    (Shape.Idx.first (numel1_S1.symm ▸ Nat.one_pos))
abbrev validAt (T : S320.Idx → Elt FV .i32) (o : Fin 1 → ℕ) (h : ∀ a, o a + S1.size a ≤ S320.size a) : BitVec 32 :=
  View.readAt (Elt FV) tabV.view (Rect.unit (s := S320) o S1.size h).toLoadRect T
    (Shape.Idx.first (numel1_S1.symm ▸ Nat.one_pos))

/-- The body loads the weights anew: at the grid's first point, and where the expert is not the point before's. -/
abbrev Loads (i : grid0.Coords) (T : S320.Idx → Elt FV .i32) : Prop :=
  (Scalar.cmpi .ne (Scalar.extui (Scalar.ori (Scalar.cmpi .eq (BitVec.ofNat 32 (i 0).val) 0#32)
    (Scalar.cmpi .ne (expertAt T (k0_off1 i) (k0_off1_inb i)) (expertAt T (k0_off2 i) (k0_off2_inb i)))))
    0#32) = 1#1

/-- The words the two outputs' guards test. -/
abbrev padWord (i : grid0.Coords) (T : S320.Idx → Elt FV .i32) : BitVec 32 := validAt T (k0_off3 i) (k0_off3_inb i)
abbrev rowWord (i : grid0.Coords) (T : S320.Idx → Elt FV .i32) : BitVec 32 := validAt T (k0_off4 i) (k0_off4_inb i)

/-- The output blocks of a point that holds rows of an expert, of its two row blocks and the three scratches. -/
def outA (x0 x1 : S1024x256.Idx → Elt FV .bf16) (s0 s1 : S1024x256.Idx → Elt FV .bf16)
    (s2 : S256x1024.Idx → Elt FV .bf16) : S1024x256.Idx → Elt FV .bf16 := k0_pay8 (F := FV) x0 x1 s0 s1 s2
def outB (x0 x1 : S1024x256.Idx → Elt FV .bf16) (s0 s1 : S1024x256.Idx → Elt FV .bf16)
    (s2 : S256x1024.Idx → Elt FV .bf16) : S1024x256.Idx → Elt FV .bf16 := k0_pay6 (F := FV) (k0_pay7 (F := FV) x0 x1 s0 s1 s2)

/-- A view read after a store of its own sizes reads the stored block. -/
theorem read_stored {κ : Kind} {sp : Space} {s : Shape} {e : EltTy} (v : View sig κ sp s e)
    (f : v.ty.Contents (Elt FV)) {off : Fin s.rank → ℕ} (inb : ∀ a, off a + s.size a ≤ s.size a)
    (w : s.Idx → Elt FV e) :
    v.read (Elt FV) (v.writes (Elt FV) f [(⟨Rect.unit off s.size inb, w⟩ : View.Piece (Elt FV) s e)]) = w := by
  funext y
  exact View.read_writes_cons_unit_of_mem v f inb w [] y y rfl fun a => by have := inb a; omega

theorem outA_congr {x0 x1 y0 y1 s0 s1 t0 t1 : S1024x256.Idx → Elt FV .bf16} {s2 t2 : S256x1024.Idx → Elt FV .bf16}
    (h0 : x0 = y0) (h1 : x1 = y1) (h2 : s0 = t0) (h3 : s1 = t1) (h4 : s2 = t2) :
    outA x0 x1 s0 s1 s2 = outA y0 y1 t0 t1 t2 := by
  subst h0 h1 h2 h3 h4; rfl

theorem outB_congr {x0 x1 y0 y1 s0 s1 t0 t1 : S1024x256.Idx → Elt FV .bf16} {s2 t2 : S256x1024.Idx → Elt FV .bf16}
    (h0 : x0 = y0) (h1 : x1 = y1) (h2 : s0 = t0) (h3 : s1 = t1) (h4 : s2 = t2) :
    outB x0 x1 s0 s1 s2 = outB y0 y1 t0 t1 t2 := by
  subst h0 h1 h2 h3 h4; rfl

set_option maxHeartbeats 8000000 in
/-- A point without rows: zero blocks; the scratches rounded from the weight blocks or kept. -/
theorem run_pad (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x256 .bf16) (harg8 : arg8.IsWhole) (arg9 : Memref sig .tc .vmem S1024x256 .bf16) (harg9 : arg9.IsWhole)
    (arg10 : Memref sig .tc .vmem S1024x256 .bf16) (harg10 : arg10.IsWhole) (arg11 : Memref sig .tc .vmem S1024x256 .bf16) (harg11 : arg11.IsWhole) (arg12 : Memref sig .tc .vmem S256x1024 .bf16) (harg12 : arg12.IsWhole)
    (T0 T1 : S320.Idx → Elt FV .i32) (x0 x1 : S1024x256.Idx → Elt FV .bf16) (x2 x3 : S1x1024x256.Idx → Elt FV .f32)
    (x4 : S1x256x1024.Idx → Elt FV .f32) (s0 s1 w0 w1 : S1024x256.Idx → Elt FV .bf16) (s2 w2 : S256x1024.Idx → Elt FV .bf16)
    (hl : Loads i T0 → k0_pay1 (F := FV) x2 = w0 ∧ k0_pay2 (F := FV) x3 = w1 ∧ k0_pay3 (F := FV) x4 = w2)
    (hk : ¬ Loads i T0 → s0 = w0 ∧ s1 = w1 ∧ s2 = w2)
    (hp : (k0_cond2 (padWord i T1) = 1#1)) (hr : ¬(k0_cond3 (rowWord i T1) = 1#1)) (K : PUnit → sProp Res) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4
        ∗ (tabE.view.loc (c : Thread nD τ) ↦{fullShare.right} T0) ∗ (tabV.view.loc (c : Thread nD τ) ↦{fullShare.right} T1)
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ (tabE.view.loc (c : Thread nD τ) ↦{fullShare.right} T0) ∗ (tabV.view.loc (c : Thread nD τ) ↦{fullShare.right} T1)
            ∗ owns (c : Thread nD τ) arg8 fullShare (k0_pay4 (F := FV)) ∗ owns (c : Thread nD τ) arg9 fullShare (k0_pay5 (F := FV))
            ∗ owns (c : Thread nD τ) arg10 fullShare w0 ∗ owns (c : Thread nD τ) arg11 fullShare w1 ∗ owns (c : Thread nD τ) arg12 fullShare w2) -∗ K ⟨⟩))
      ⊢ wp frame (wpE (defs₀ (F := FV)) Variants.none c none) Set.univ
          (cc0_ffn i tabE (Memref.isWhole_whole _) tabV (Memref.isWhole_whole _) arg3 harg3 arg4 harg4 arg5 harg5 arg6 harg6 arg7 harg7 arg8 harg8 arg9 harg9 arg10 harg10 arg11 harg11 arg12 harg12) K := by
  unfold owns
  rw [cc0_ffn_eq_skeleton]; unfold cc0_ffn_skel
  iintro ⟨⟨%f3, %h3, H0⟩, ⟨%f4, %h4, H1⟩, ⟨%f5, %h5, H2⟩, ⟨%f6, %h6, H3⟩, ⟨%f7, %h7, H4⟩, HT0, HT1, ⟨%d8, %f8, -, HO5⟩, ⟨%d9, %f9, -, HO6⟩, ⟨%f10, %h10, HS0⟩, ⟨%f11, %h11, HS1⟩, ⟨%f12, %h12, HS2⟩, Hk⟩
  have hT0 : tabE.IsWhole := Memref.isWhole_whole _
  have hT1 : tabV.IsWhole := Memref.isWhole_whole _
  sl_exec! (disch := first | (guard_target = k0_cond2 _ = _; exact hp) | (guard_target = ¬(k0_cond2 _ = _); exact hp) | (guard_target = k0_cond3 _ = _; exact hr) | (guard_target = ¬(k0_cond3 _ = _); exact hr))
  sl_step
  have e0 : View.read (Elt FV) arg10.view (if hc : Loads i T0 then arg10.view.writes (Elt FV) f10
      [⟨Rect.unit ![0, 0] S1024x256.size inb_S1024x256_S1024x256_0_0, k0_pay1 (View.readAt (Elt FV) arg5.view
        (Rect.unit ![0, 0, 0] S1x1024x256.size inb_S1x1024x256_S1x1024x256_0_0_0).toLoadRect f5)⟩] else f10) = w0 := by
    split
    · next h => rw [View.readAt_full, h5]; exact (read_stored arg10.view f10 _ _).trans (hl h).1
    · next h => exact h10.trans (hk h).1
  have e1 : View.read (Elt FV) arg11.view (if hc : Loads i T0 then arg11.view.writes (Elt FV) f11
      [⟨Rect.unit ![0, 0] S1024x256.size inb_S1024x256_S1024x256_0_0, k0_pay2 (View.readAt (Elt FV) arg6.view
        (Rect.unit ![0, 0, 0] S1x1024x256.size inb_S1x1024x256_S1x1024x256_0_0_0).toLoadRect f6)⟩] else f11) = w1 := by
    split
    · next h => rw [View.readAt_full, h6]; exact (read_stored arg11.view f11 _ _).trans (hl h).2.1
    · next h => exact h11.trans (hk h).2.1
  have e2 : View.read (Elt FV) arg12.view (if hc : Loads i T0 then arg12.view.writes (Elt FV) f12
      [⟨Rect.unit ![0, 0] S256x1024.size inb_S256x1024_S256x1024_0_0, k0_pay3 (View.readAt (Elt FV) arg7.view
        (Rect.unit ![0, 0, 0] S1x256x1024.size inb_S1x256x1024_S1x256x1024_0_0_0).toLoadRect f7)⟩] else f12) = w2 := by
    split
    · next h => rw [View.readAt_full, h7]; exact (read_stored arg12.view f12 _ _).trans (hl h).2.2
    · next h => exact h12.trans (hk h).2.2
  iapply Hk
  isplitl [H0]
  · iexists f3
    isplitr
    on_goal 2 => iexact H0
    ipureintro; exact h3
  isplitl [H1]
  · iexists f4
    isplitr
    on_goal 2 => iexact H1
    ipureintro; exact h4
  isplitl [H2]
  · iexists f5
    isplitr
    on_goal 2 => iexact H2
    ipureintro; exact h5
  isplitl [H3]
  · iexists f6
    isplitr
    on_goal 2 => iexact H3
    ipureintro; exact h6
  isplitl [H4]
  · iexists f7
    isplitr
    on_goal 2 => iexact H4
    ipureintro; exact h7
  isplitl [HT0]; · iexact HT0
  isplitl [HT1]; · iexact HT1
  isplitl [HO5]
  · iexists _
    isplitr
    on_goal 2 => iexact HO5
    ipureintro
    exact read_stored arg8.view _ _ _
  isplitl [HO6]
  · iexists _
    isplitr
    on_goal 2 => iexact HO6
    ipureintro
    exact read_stored arg9.view _ _ _
  isplitl [HS0]
  · iexists _
    isplitr
    on_goal 2 => iexact HS0
    ipureintro; exact e0
  isplitl [HS1]
  · iexists _
    isplitr
    on_goal 2 => iexact HS1
    ipureintro; exact e1
  iexists _
  isplitr
  on_goal 2 => iexact HS2
  ipureintro; exact e2

set_option maxHeartbeats 8000000 in
/-- A point with rows: the two blocks computed from the row blocks and the scratches as they then are. -/
theorem run_rows (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x256 .bf16) (harg8 : arg8.IsWhole) (arg9 : Memref sig .tc .vmem S1024x256 .bf16) (harg9 : arg9.IsWhole)
    (arg10 : Memref sig .tc .vmem S1024x256 .bf16) (harg10 : arg10.IsWhole) (arg11 : Memref sig .tc .vmem S1024x256 .bf16) (harg11 : arg11.IsWhole) (arg12 : Memref sig .tc .vmem S256x1024 .bf16) (harg12 : arg12.IsWhole)
    (T0 T1 : S320.Idx → Elt FV .i32) (x0 x1 : S1024x256.Idx → Elt FV .bf16) (x2 x3 : S1x1024x256.Idx → Elt FV .f32)
    (x4 : S1x256x1024.Idx → Elt FV .f32) (s0 s1 w0 w1 : S1024x256.Idx → Elt FV .bf16) (s2 w2 : S256x1024.Idx → Elt FV .bf16)
    (hl : Loads i T0 → k0_pay1 (F := FV) x2 = w0 ∧ k0_pay2 (F := FV) x3 = w1 ∧ k0_pay3 (F := FV) x4 = w2)
    (hk : ¬ Loads i T0 → s0 = w0 ∧ s1 = w1 ∧ s2 = w2)
    (hp : ¬(k0_cond2 (padWord i T1) = 1#1)) (hr : (k0_cond3 (rowWord i T1) = 1#1)) (K : PUnit → sProp Res) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare x4
        ∗ (tabE.view.loc (c : Thread nD τ) ↦{fullShare.right} T0) ∗ (tabV.view.loc (c : Thread nD τ) ↦{fullShare.right} T1)
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1 ∗ owns (c : Thread nD τ) arg12 fullShare s2
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare x4
            ∗ (tabE.view.loc (c : Thread nD τ) ↦{fullShare.right} T0) ∗ (tabV.view.loc (c : Thread nD τ) ↦{fullShare.right} T1)
            ∗ owns (c : Thread nD τ) arg8 fullShare (outA x0 x1 w0 w1 w2) ∗ owns (c : Thread nD τ) arg9 fullShare (outB x0 x1 w0 w1 w2)
            ∗ owns (c : Thread nD τ) arg10 fullShare w0 ∗ owns (c : Thread nD τ) arg11 fullShare w1 ∗ owns (c : Thread nD τ) arg12 fullShare w2) -∗ K ⟨⟩))
      ⊢ wp frame (wpE (defs₀ (F := FV)) Variants.none c none) Set.univ
          (cc0_ffn i tabE (Memref.isWhole_whole _) tabV (Memref.isWhole_whole _) arg3 harg3 arg4 harg4 arg5 harg5 arg6 harg6 arg7 harg7 arg8 harg8 arg9 harg9 arg10 harg10 arg11 harg11 arg12 harg12) K := by
  unfold owns
  rw [cc0_ffn_eq_skeleton]; unfold cc0_ffn_skel
  iintro ⟨⟨%f3, %h3, H0⟩, ⟨%f4, %h4, H1⟩, ⟨%f5, %h5, H2⟩, ⟨%f6, %h6, H3⟩, ⟨%f7, %h7, H4⟩, HT0, HT1, ⟨%d8, %f8, -, HO5⟩, ⟨%d9, %f9, -, HO6⟩, ⟨%f10, %h10, HS0⟩, ⟨%f11, %h11, HS1⟩, ⟨%f12, %h12, HS2⟩, Hk⟩
  have hT0 : tabE.IsWhole := Memref.isWhole_whole _
  have hT1 : tabV.IsWhole := Memref.isWhole_whole _
  sl_exec! (disch := first | (guard_target = k0_cond2 _ = _; exact hp) | (guard_target = ¬(k0_cond2 _ = _); exact hp) | (guard_target = k0_cond3 _ = _; exact hr) | (guard_target = ¬(k0_cond3 _ = _); exact hr))
  sl_step
  have e0 : View.read (Elt FV) arg10.view (if hc : Loads i T0 then arg10.view.writes (Elt FV) f10
      [⟨Rect.unit ![0, 0] S1024x256.size inb_S1024x256_S1024x256_0_0, k0_pay1 (View.readAt (Elt FV) arg5.view
        (Rect.unit ![0, 0, 0] S1x1024x256.size inb_S1x1024x256_S1x1024x256_0_0_0).toLoadRect f5)⟩] else f10) = w0 := by
    split
    · next h => rw [View.readAt_full, h5]; exact (read_stored arg10.view f10 _ _).trans (hl h).1
    · next h => exact h10.trans (hk h).1
  have e1 : View.read (Elt FV) arg11.view (if hc : Loads i T0 then arg11.view.writes (Elt FV) f11
      [⟨Rect.unit ![0, 0] S1024x256.size inb_S1024x256_S1024x256_0_0, k0_pay2 (View.readAt (Elt FV) arg6.view
        (Rect.unit ![0, 0, 0] S1x1024x256.size inb_S1x1024x256_S1x1024x256_0_0_0).toLoadRect f6)⟩] else f11) = w1 := by
    split
    · next h => rw [View.readAt_full, h6]; exact (read_stored arg11.view f11 _ _).trans (hl h).2.1
    · next h => exact h11.trans (hk h).2.1
  have e2 : View.read (Elt FV) arg12.view (if hc : Loads i T0 then arg12.view.writes (Elt FV) f12
      [⟨Rect.unit ![0, 0] S256x1024.size inb_S256x1024_S256x1024_0_0, k0_pay3 (View.readAt (Elt FV) arg7.view
        (Rect.unit ![0, 0, 0] S1x256x1024.size inb_S1x256x1024_S1x256x1024_0_0_0).toLoadRect f7)⟩] else f12) = w2 := by
    split
    · next h => rw [View.readAt_full, h7]; exact (read_stored arg12.view f12 _ _).trans (hl h).2.2
    · next h => exact h12.trans (hk h).2.2
  iapply Hk
  isplitl [H0]
  · iexists f3
    isplitr
    on_goal 2 => iexact H0
    ipureintro; exact h3
  isplitl [H1]
  · iexists f4
    isplitr
    on_goal 2 => iexact H1
    ipureintro; exact h4
  isplitl [H2]
  · iexists f5
    isplitr
    on_goal 2 => iexact H2
    ipureintro; exact h5
  isplitl [H3]
  · iexists f6
    isplitr
    on_goal 2 => iexact H3
    ipureintro; exact h6
  isplitl [H4]
  · iexists f7
    isplitr
    on_goal 2 => iexact H4
    ipureintro; exact h7
  isplitl [HT0]; · iexact HT0
  isplitl [HT1]; · iexact HT1
  isplitl [HO5]
  · iexists _
    isplitr
    on_goal 2 => iexact HO5
    ipureintro
    refine (read_stored _ _ _ _).trans ?_
    exact outA_congr ((View.readAt_full arg3.view f3 inb_S1024x256_S1024x256_0_0).trans h3)
      ((View.readAt_full arg4.view f4 inb_S1024x256_S1024x256_0_0).trans h4)
      ((View.readAt_full arg10.view _ inb_S1024x256_S1024x256_0_0).trans e0)
      ((View.readAt_full arg11.view _ inb_S1024x256_S1024x256_0_0).trans e1)
      ((View.readAt_full arg12.view _ inb_S256x1024_S256x1024_0_0).trans e2)
  isplitl [HO6]
  · iexists _
    isplitr
    on_goal 2 => iexact HO6
    ipureintro
    refine (read_stored _ _ _ _).trans ?_
    exact outB_congr ((View.readAt_full arg3.view f3 inb_S1024x256_S1024x256_0_0).trans h3)
      ((View.readAt_full arg4.view f4 inb_S1024x256_S1024x256_0_0).trans h4)
      ((View.readAt_full arg10.view _ inb_S1024x256_S1024x256_0_0).trans e0)
      ((View.readAt_full arg11.view _ inb_S1024x256_S1024x256_0_0).trans e1)
      ((View.readAt_full arg12.view _ inb_S256x1024_S256x1024_0_0).trans e2)
  isplitl [HS0]
  · iexists _
    isplitr
    on_goal 2 => iexact HS0
    ipureintro; exact e0
  isplitl [HS1]
  · iexists _
    isplitr
    on_goal 2 => iexact HS1
    ipureintro; exact e1
  iexists _
  isplitr
  on_goal 2 => iexact HS2
  ipureintro; exact e2

end Cert.Proof.Ffn

end
-- ==== Proof.FfnWords.lean ====
/- The words the expert kernel steers by: which block of the weights a point is given, when it loads the weights anew,
   and which of its two guards holds. -/
module

public import proofs.«01_k».proof.Proof.FfnBody
public import Idealize.ShloMosaic.Lib.WordCmp

@[expose] public section

set_option maxRecDepth 16384

noncomputable section

namespace Cert.Proof.Ffn

open Cert.Kernel2Ideal Cert.Kernel2Ideal.Gen
open Idealize.ShloMosaic Idealize.ShloMosaic.TcCoe

/-- The table index of a grid point. -/
def slotOf (i : grid0.Coords) : S320.Idx := fun a => match a with | ⟨0, _⟩ => ⟨(i 0).val, (i 0).isLt⟩

/-- The offset of a point's own word is its coordinate. -/
theorem off1_val (i : grid0.Coords) : k0_off1 i 0 = (i 0).val := by
  have h : (i 0).val < 320 := (i 0).isLt
  show (BitVec.ofNat 32 (i 0).val).toNat = _
  rw [BitVec.toNat_ofNat]; exact Nat.mod_eq_of_lt (by omega)
theorem off3_val (i : grid0.Coords) : k0_off3 i 0 = (i 0).val := off1_val i
theorem off4_val (i : grid0.Coords) : k0_off4 i 0 = (i 0).val := off1_val i

theorem off2_table : ∀ n : Fin 320, n.val ≠ 0 →
    (Scalar.maxsi (Scalar.subi (BitVec.ofNat 32 n.val) 1#32) 0#32).toNat = n.val - 1 := by decide +kernel
/-- The offset of the word before it: one less. -/
theorem off2_val (i : grid0.Coords) (h0 : (i 0).val ≠ 0) : k0_off2 i 0 = (i 0).val - 1 :=
  off2_table ⟨(i 0).val, (i 0).isLt⟩ h0

/-- A loaded table word is the table's entry at the offset. -/
theorem expertAt_eq (T : S320.Idx → Elt FV .i32) (o : Fin 1 → ℕ) (h : ∀ a, o a + S1.size a ≤ S320.size a)
    (x : S320.Idx) (hx : (x 0).val = o 0) : expertAt T o h = T x := by
  show T _ = T x
  refine congrArg T (funext fun a => ?_)
  match a with
  | ⟨0, _⟩ => exact Fin.ext ((show o 0 + 1 * 0 = o 0 by omega).trans hx.symm)
theorem validAt_eq (T : S320.Idx → Elt FV .i32) (o : Fin 1 → ℕ) (h : ∀ a, o a + S1.size a ≤ S320.size a)
    (x : S320.Idx) (hx : (x 0).val = o 0) : validAt T o h = T x := by
  show T _ = T x
  refine congrArg T (funext fun a => ?_)
  match a with
  | ⟨0, _⟩ => exact Fin.ext ((show o 0 + 1 * 0 = o 0 by omega).trans hx.symm)

theorem padWord_eq (i : grid0.Coords) (T : S320.Idx → Elt FV .i32) : padWord i T = T (slotOf i) :=
  validAt_eq T _ _ _ (off3_val i).symm
theorem rowWord_eq (i : grid0.Coords) (T : S320.Idx → Elt FV .i32) : rowWord i T = T (slotOf i) :=
  validAt_eq T _ _ _ (off4_val i).symm

/-- The guards: one tests the word for zero, the other for not zero. -/
theorem cond2_iff (w : BitVec 32) : k0_cond2 w = 1#1 ↔ w = 0#32 := by
  show IntOp.cmpi .ne (Scalar.extui (IntOp.cmpi .eq w 0#32)) 0#32 = 1#1 ↔ _
  rw [WordCmp.cmpi_eq_eq]
  by_cases h : w = 0#32 <;> simp only [h, decide_true, decide_false] <;> decide
theorem cond3_iff (w : BitVec 32) : k0_cond3 w = 1#1 ↔ w ≠ 0#32 := by
  show IntOp.cmpi .ne (Scalar.extui (IntOp.cmpi .ne w 0#32)) 0#32 = 1#1 ↔ _
  rw [WordCmp.cmpi_ne_eq w]
  by_cases h : w = 0#32 <;> simp only [h, ne_eq, not_true_eq_false, not_false_eq_true, decide_true, decide_false] <;> decide

/-- Loading anew: at the first point, or where two words differ. -/
theorem loads_word (a x y : BitVec 32) : IntOp.cmpi .ne (Scalar.extui (Scalar.ori (IntOp.cmpi .eq a 0#32)
    (IntOp.cmpi .ne x y))) 0#32 = 1#1 ↔ (a = 0#32 ∨ x ≠ y) := by
  rw [WordCmp.cmpi_eq_eq, WordCmp.cmpi_ne_eq x y]
  by_cases h : a = 0#32 <;> by_cases h' : x = y <;>
    simp only [h, h', ne_eq, not_true_eq_false, not_false_eq_true, decide_true, decide_false, or_true, or_false, true_or] <;> decide

theorem loads_iff (i : grid0.Coords) (T : S320.Idx → Elt FV .i32) : Loads i T ↔ (BitVec.ofNat 32 (i 0).val = 0#32 ∨
    expertAt T (k0_off1 i) (k0_off1_inb i) ≠ expertAt T (k0_off2 i) (k0_off2_inb i)) := loads_word _ _ _

/-- The weights are loaded anew at the first point, and where the expert changes. -/
theorem loads_of_zero (i : grid0.Coords) (T : S320.Idx → Elt FV .i32) (h0 : (i 0).val = 0) : Loads i T :=
  (loads_iff i T).2 (.inl (by rw [h0]))
theorem kept_of_not_loads (i : grid0.Coords) (T : S320.Idx → Elt FV .i32) (h : ¬ Loads i T) :
    (i 0).val ≠ 0 ∧ expertAt T (k0_off1 i) (k0_off1_inb i) = expertAt T (k0_off2 i) (k0_off2_inb i) :=
  ⟨fun h0 => h (loads_of_zero i T h0), not_not.1 fun h' => h ((loads_iff i T).2 (.inr h'))⟩

end Cert.Proof.Ffn

end
-- ==== Proof.FfnData.lean ====
/- The expert kernel's pipeline: its tables as launched, the blocks each grid point is handed, the invariant that carries
   the rounded weights from point to point, and the obligation of one point. -/
module

public import proofs.«01_k».proof.Proof.FfnWords
public import Idealize.ShloMosaic.Lib.Pipeline.Kit
public import Idealize.ShloMosaic.Lib.Pipeline.TableIdle
public import Idealize.ShloMosaic.Lib.Pointwise.Index
public import Idealize.ShloMosaic.Lib.Claim

@[expose] public section

set_option maxRecDepth 16384
set_option Elab.async false

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev Mem := (ℓ : Loc nD τ sig) → Buf (Elt FV) ℓ

/-- The two tables as they are launched. -/
def tabs (m : Mem) : pre0.Contents (Elt FV) := fun j => m (((0 : Dev nD) : Thread nD τ).loc (pre0.ref j))
abbrev expertTab (m : Mem) : S320.Idx → Elt FV .i32 := tabs m 0
abbrev validTab (m : Mem) : S320.Idx → Elt FV .i32 := tabs m 1

/-- Every word of the expert table names one of the 64 experts. -/
def Named (m : Mem) : Prop := ∀ x : S320.Idx, (show BitVec 32 from expertTab m x).toNat < 64

theorem ok_tabs (m : Mem) (hn : Named m) : ok0 (tabs m) := by
  refine ⟨fun i => ⟨fun a => ?_, .inl rfl⟩, fun i => ⟨fun a => ?_, .inl rfl⟩, fun i => ⟨fun a => ?_, .inl rfl⟩⟩ <;>
  · match a with
    | ⟨0, _⟩ => exact (Nat.mul_one _).trans_le (hn _)
    | ⟨1, _⟩ => exact le_of_eq rfl
    | ⟨2, _⟩ => exact le_of_eq rfl

variable (m : Mem) (ρ : Dev nD → PrngReg) (hn : Named m)

def adm : (pcfg0 (F := FV)).Adm := ⟨tabs m, ok_tabs m hn⟩
abbrev cfgA : Pipeline.Cfg sig Λ₀ := cfg0 (F := FV) (adm m hn)
abbrev pcs : Fin 1 → Pipeline.Cfg sig Λ₀ := Pipeline.pin (pcfgs (F := FV)) fun _ => adm m hn
abbrev s₀ : MemSt nD τ sig (Elt FV) := ⟨m, fun _ => 0, ρ⟩
abbrev EP : Emb (UR sig nD τ) Res := emb₁

abbrev crd (t : Fin (cfgA m hn).N) : grid0.Coords := (cfgA m hn).grid.coords t

theorem crd_val (t : Fin (cfgA m hn).N) : ((crd m hn t) 0).val = t.val := by
  have h : t.val < 320 := lt_of_lt_of_eq t.isLt N_0
  have := Pipeline.Grid.coords_val (G := grid0) t 0 (S := 1) (B := 320) (by decide) rfl
  rw [this, Nat.div_one, Nat.mod_eq_of_lt h]

/-- The staging buffers of a point. -/
abbrev ms0 (t : Fin (cfgA m hn).N) : Memref sig .tc .vmem S1024x256 .bf16 := spec0_0.stage ((cfgA m hn).slots t (0 : Fin 7))
abbrev hs0 (t : Fin (cfgA m hn).N) : (ms0 m hn t).IsWhole := hstage0_0 (((cfgA m hn).slots t (0 : Fin 7)).cast nbuf0_0)
abbrev ms1 (t : Fin (cfgA m hn).N) : Memref sig .tc .vmem S1024x256 .bf16 := spec0_1.stage ((cfgA m hn).slots t (1 : Fin 7))
abbrev hs1 (t : Fin (cfgA m hn).N) : (ms1 m hn t).IsWhole := hstage0_1 (((cfgA m hn).slots t (1 : Fin 7)).cast nbuf0_1)
abbrev ms2 (t : Fin (cfgA m hn).N) : Memref sig .tc .vmem S1x1024x256 .f32 := spec0_2.stage ((cfgA m hn).slots t (2 : Fin 7))
abbrev hs2 (t : Fin (cfgA m hn).N) : (ms2 m hn t).IsWhole := hstage0_2 (((cfgA m hn).slots t (2 : Fin 7)).cast nbuf0_2)
abbrev ms3 (t : Fin (cfgA m hn).N) : Memref sig .tc .vmem S1x1024x256 .f32 := spec0_3.stage ((cfgA m hn).slots t (3 : Fin 7))
abbrev hs3 (t : Fin (cfgA m hn).N) : (ms3 m hn t).IsWhole := hstage0_3 (((cfgA m hn).slots t (3 : Fin 7)).cast nbuf0_3)
abbrev ms4 (t : Fin (cfgA m hn).N) : Memref sig .tc .vmem S1x256x1024 .f32 := spec0_4.stage ((cfgA m hn).slots t (4 : Fin 7))
abbrev hs4 (t : Fin (cfgA m hn).N) : (ms4 m hn t).IsWhole := hstage0_4 (((cfgA m hn).slots t (4 : Fin 7)).cast nbuf0_4)
abbrev ms5 (t : Fin (cfgA m hn).N) : Memref sig .tc .vmem S1024x256 .bf16 := spec0_5.stage ((cfgA m hn).slots t (5 : Fin 7))
abbrev hs5 (t : Fin (cfgA m hn).N) : (ms5 m hn t).IsWhole := hstage0_5 (((cfgA m hn).slots t (5 : Fin 7)).cast nbuf0_5)
abbrev ms6 (t : Fin (cfgA m hn).N) : Memref sig .tc .vmem S1024x256 .bf16 := spec0_6.stage ((cfgA m hn).slots t (6 : Fin 7))
abbrev hs6 (t : Fin (cfgA m hn).N) : (ms6 m hn t).IsWhole := hstage0_6 (((cfgA m hn).slots t (6 : Fin 7)).cast nbuf0_6)

/-- A window's block of its array at a point. -/
def iblk (c : Dev nD) (w : Fin (cfgA m hn).W) (t : Fin (cfgA m hn).N) :
    (((cfgA m hn).win w).xblock (crd m hn t)).Idx → Elt FV ((cfgA m hn).win w).elt :=
  (((cfgA m hn).win w).blk t).view.read (Elt FV) ((s₀ m ρ).mem (((cfgA m hn).win w).arr.view.loc (c : Thread nD τ)))

/-- The expert of a point. -/
def expertOf (t : Fin (cfgA m hn).N) : Fin 64 := ⟨_, hn (slotOf (crd m hn t))⟩

theorem word_at (t : Fin (cfgA m hn).N) :
    (show BitVec 32 from (tabs m).at 0 (Rect.unit (s := S320) (k0_off1 (crd m hn t)) S1.size (k0_off1_inb (crd m hn t))) numel1_S1)
      = expertTab m (slotOf (crd m hn t)) := by
  refine congrArg (expertTab m) (funext fun a => ?_)
  match a with
  | ⟨0, _⟩ => exact Fin.ext ((show k0_off1 (crd m hn t) 0 + 1 * 0 = _ from by omega).trans (off1_val (crd m hn t)))

/-- Which entries of the expert's weights a point's blocks hold. -/
theorem iblk2_apply (c : Dev nD) (t : Fin (cfgA m hn).N) (y : S1x1024x256.Idx) :
    (show S1x1024x256.Idx → Elt FV .f32 from iblk m ρ hn c 2 t) y
      = m ((c : Thread nD τ).loc main_arg4) (ix3 (expertOf m hn t) (y 1) (y 2)) := by
  show m _ _ = _
  refine congrArg (m ((c : Thread nD τ).loc main_arg4)) (funext fun a => ?_)
  match a with
  | ⟨0, _⟩ =>
    have h0 : (y 0).val = 0 := Nat.lt_one_iff.1 (y 0).isLt
    refine Fin.ext ((show _ = (show BitVec 32 from (tabs m).at 0 (Rect.unit (s := S320) (k0_off1 (crd m hn t)) S1.size
      (k0_off1_inb (crd m hn t))) numel1_S1).toNat * 1 + 1 * (y 0).val from rfl).trans ?_)
    rw [word_at, h0, Nat.mul_one, Nat.mul_zero, Nat.add_zero]; rfl
  | ⟨1, _⟩ => exact Fin.ext (show 0 * 1024 + 1 * (y 1).val = (y 1).val by omega)
  | ⟨2, _⟩ => exact Fin.ext (show 0 * 256 + 1 * (y 2).val = (y 2).val by omega)
theorem iblk3_apply (c : Dev nD) (t : Fin (cfgA m hn).N) (y : S1x1024x256.Idx) :
    (show S1x1024x256.Idx → Elt FV .f32 from iblk m ρ hn c 3 t) y
      = m ((c : Thread nD τ).loc main_arg5) (ix3 (expertOf m hn t) (y 1) (y 2)) := by
  show m _ _ = _
  refine congrArg (m ((c : Thread nD τ).loc main_arg5)) (funext fun a => ?_)
  match a with
  | ⟨0, _⟩ =>
    have h0 : (y 0).val = 0 := Nat.lt_one_iff.1 (y 0).isLt
    refine Fin.ext ((show _ = (show BitVec 32 from (tabs m).at 0 (Rect.unit (s := S320) (k0_off1 (crd m hn t)) S1.size
      (k0_off1_inb (crd m hn t))) numel1_S1).toNat * 1 + 1 * (y 0).val from rfl).trans ?_)
    rw [word_at, h0, Nat.mul_one, Nat.mul_zero, Nat.add_zero]; rfl
  | ⟨1, _⟩ => exact Fin.ext (show 0 * 1024 + 1 * (y 1).val = (y 1).val by omega)
  | ⟨2, _⟩ => exact Fin.ext (show 0 * 256 + 1 * (y 2).val = (y 2).val by omega)
theorem iblk4_apply (c : Dev nD) (t : Fin (cfgA m hn).N) (y : S1x256x1024.Idx) :
    (show S1x256x1024.Idx → Elt FV .f32 from iblk m ρ hn c 4 t) y
      = m ((c : Thread nD τ).loc main_arg6) (ix3 (expertOf m hn t) (y 1) (y 2)) := by
  show m _ _ = _
  refine congrArg (m ((c : Thread nD τ).loc main_arg6)) (funext fun a => ?_)
  match a with
  | ⟨0, _⟩ =>
    have h0 : (y 0).val = 0 := Nat.lt_one_iff.1 (y 0).isLt
    refine Fin.ext ((show _ = (show BitVec 32 from (tabs m).at 0 (Rect.unit (s := S320) (k0_off1 (crd m hn t)) S1.size
      (k0_off1_inb (crd m hn t))) numel1_S1).toNat * 1 + 1 * (y 0).val from rfl).trans ?_)
    rw [word_at, h0, Nat.mul_one, Nat.mul_zero, Nat.add_zero]; rfl
  | ⟨1, _⟩ => exact Fin.ext (show 0 * 256 + 1 * (y 1).val = (y 1).val by omega)
  | ⟨2, _⟩ => exact Fin.ext (show 0 * 1024 + 1 * (y 2).val = (y 2).val by omega)

/-- The rounded weights a point leaves in the three scratches. -/
def held0 (c : Dev nD) (t : Fin (cfgA m hn).N) : S1024x256.Idx → Elt FV .bf16 := k0_pay1 (F := FV) (iblk m ρ hn c 2 t)
def held1 (c : Dev nD) (t : Fin (cfgA m hn).N) : S1024x256.Idx → Elt FV .bf16 := k0_pay2 (F := FV) (iblk m ρ hn c 3 t)
def held2 (c : Dev nD) (t : Fin (cfgA m hn).N) : S256x1024.Idx → Elt FV .bf16 := k0_pay3 (F := FV) (iblk m ρ hn c 4 t)

/-- Two points of one expert leave the same. -/
theorem held_congr (c : Dev nD) (t u : Fin (cfgA m hn).N) (h : expertOf m hn t = expertOf m hn u) :
    held0 m ρ hn c t = held0 m ρ hn c u ∧ held1 m ρ hn c t = held1 m ρ hn c u ∧ held2 m ρ hn c t = held2 m ρ hn c u := by
  refine ⟨congrArg (k0_pay1 (F := FV)) (funext fun y => ?_), congrArg (k0_pay2 (F := FV)) (funext fun y => ?_),
    congrArg (k0_pay3 (F := FV)) (funext fun y => ?_)⟩
  · exact (iblk2_apply m ρ hn c t y).trans ((congrArg (fun e => m ((c : Thread nD τ).loc main_arg4) (ix3 e ((show S1x1024x256.Idx from y) 1) ((show S1x1024x256.Idx from y) 2))) h).trans (iblk2_apply m ρ hn c u y).symm)
  · exact (iblk3_apply m ρ hn c t y).trans ((congrArg (fun e => m ((c : Thread nD τ).loc main_arg5) (ix3 e ((show S1x1024x256.Idx from y) 1) ((show S1x1024x256.Idx from y) 2))) h).trans (iblk3_apply m ρ hn c u y).symm)
  · exact (iblk4_apply m ρ hn c t y).trans ((congrArg (fun e => m ((c : Thread nD τ).loc main_arg6) (ix3 e ((show S1x256x1024.Idx from y) 1) ((show S1x256x1024.Idx from y) 2))) h).trans (iblk4_apply m ρ hn c u y).symm)

/-- A point that keeps its weights has the expert of the point before it. -/
theorem expert_kept (t : Fin (cfgA m hn).N) (h : ¬ Loads (crd m hn t) (expertTab m)) :
    ∃ h0 : 0 < t.val, expertOf m hn ⟨t.val - 1, by omega⟩ = expertOf m hn t := by
  obtain ⟨h0, h1⟩ := kept_of_not_loads _ _ h
  have hp : 0 < t.val := Nat.pos_of_ne_zero fun hz => h0 ((crd_val m hn t).trans hz)
  refine ⟨hp, ?_⟩
  have e1 := expertAt_eq (expertTab m) _ (k0_off1_inb (crd m hn t)) (slotOf (crd m hn t)) (off1_val _).symm
  have e2 := expertAt_eq (expertTab m) _ (k0_off2_inb (crd m hn t)) (slotOf (crd m hn ⟨t.val - 1, by omega⟩))
    (((crd_val m hn _).trans (by rw [crd_val])).trans (off2_val _ h0).symm)
  have e : (show BitVec 32 from expertTab m (slotOf (crd m hn ⟨t.val - 1, by omega⟩))) = expertTab m (slotOf (crd m hn t)) := e2.symm.trans (h1.symm.trans e1)
  have e' := congrArg (fun w : BitVec 32 => w.toNat) e
  exact Fin.ext e'

/-- The point's chunk holds rows of an expert. -/
def Rows (t : Fin (cfgA m hn).N) : Prop := (show BitVec 32 from validTab m (slotOf (crd m hn t))) ≠ 0#32

open Classical in
/-- The blocks a point leaves in the two outputs. -/
def leftA (c : Dev nD) (t : Fin (cfgA m hn).N) : S1024x256.Idx → Elt FV .bf16 :=
  if Rows m hn t then outA (iblk m ρ hn c 0 t) (iblk m ρ hn c 1 t) (held0 m ρ hn c t) (held1 m ρ hn c t) (held2 m ρ hn c t)
  else k0_pay4 (F := FV)
open Classical in
def leftB (c : Dev nD) (t : Fin (cfgA m hn).N) : S1024x256.Idx → Elt FV .bf16 :=
  if Rows m hn t then outB (iblk m ρ hn c 0 t) (iblk m ρ hn c 1 t) (held0 m ρ hn c t) (held1 m ρ hn c t) (held2 m ρ hn c t)
  else k0_pay5 (F := FV)

/-- Between points: after a first point each scratch holds the weights of the last one; the body's halves of the tables. -/
def Carry (c : Dev nD) (n : Fin ((cfgA m hn).N + 1)) : sProp Res :=
  iprop((∃ d, ⌜∀ h : 0 < n.val, d = held0 m ρ hn c ⟨n.val - 1, by omega⟩⌝ ∗ owns (c : Thread nD τ) (Memref.whole cc0_scratch0) fullShare d)
    ∗ (∃ d, ⌜∀ h : 0 < n.val, d = held1 m ρ hn c ⟨n.val - 1, by omega⟩⌝ ∗ owns (c : Thread nD τ) (Memref.whole cc0_scratch1) fullShare d)
    ∗ (∃ d, ⌜∀ h : 0 < n.val, d = held2 m ρ hn c ⟨n.val - 1, by omega⟩⌝ ∗ owns (c : Thread nD τ) (Memref.whole cc0_scratch2) fullShare d)
    ∗ (tabE.view.loc (c : Thread nD τ) ↦{fullShare.right} expertTab m)
    ∗ (tabV.view.loc (c : Thread nD τ) ↦{fullShare.right} validTab m))

/-- The pipeline's proof data on a core. -/
def dats (_ : Fin 1) (c : Dev nD) : Dat τ (Elt FV) Unit ℕ (UR sig nD τ) ℕ (cfgA m hn) c where
  A w := (s₀ m ρ).mem (((cfgA m hn).win w).arr.view.loc (c : Thread nD τ))
  after w t := match w with
    | ⟨0, _⟩ => iblk m ρ hn c (0 : Fin 7) t
    | ⟨1, _⟩ => iblk m ρ hn c (1 : Fin 7) t
    | ⟨2, _⟩ => iblk m ρ hn c (2 : Fin 7) t
    | ⟨3, _⟩ => iblk m ρ hn c (3 : Fin 7) t
    | ⟨4, _⟩ => iblk m ρ hn c (4 : Fin 7) t
    | ⟨5, _⟩ => leftA m ρ hn c t
    | ⟨6, _⟩ => leftB m ρ hn c t
  Φ t := Carry m ρ hn c t
  q _ := fullShare
  owed _ := 0

theorem after0 (c : Dev nD) (t : Fin (cfgA m hn).N) : (dats m ρ hn 0 c).after (0 : Fin 7) t = iblk m ρ hn c (0 : Fin 7) t := rfl
theorem after1 (c : Dev nD) (t : Fin (cfgA m hn).N) : (dats m ρ hn 0 c).after (1 : Fin 7) t = iblk m ρ hn c (1 : Fin 7) t := rfl
theorem after2 (c : Dev nD) (t : Fin (cfgA m hn).N) : (dats m ρ hn 0 c).after (2 : Fin 7) t = iblk m ρ hn c (2 : Fin 7) t := rfl
theorem after3 (c : Dev nD) (t : Fin (cfgA m hn).N) : (dats m ρ hn 0 c).after (3 : Fin 7) t = iblk m ρ hn c (3 : Fin 7) t := rfl
theorem after4 (c : Dev nD) (t : Fin (cfgA m hn).N) : (dats m ρ hn 0 c).after (4 : Fin 7) t = iblk m ρ hn c (4 : Fin 7) t := rfl
theorem after5 (c : Dev nD) (t : Fin (cfgA m hn).N) : (dats m ρ hn 0 c).after (5 : Fin 7) t = leftA m ρ hn c t := rfl
theorem after6 (c : Dev nD) (t : Fin (cfgA m hn).N) : (dats m ρ hn 0 c).after (6 : Fin 7) t = leftB m ρ hn c t := rfl

/-- Each input's staging buffer holds its block when the body runs. -/
theorem before0 (c : Dev nD) (t : Fin (cfgA m hn).N) (d) : (dats m ρ hn 0 c).before (0 : Fin 7) t d = iblk m ρ hn c (0 : Fin 7) t :=
  ((dats m ρ hn 0 c).before_in_eq_fetched (0 : Fin 7) rfl (fun _ => rfl) (fun _ _ _ => rfl)
    (fun t => by rw [after0]; unfold Dat.blockOf iblk; rfl) t d).trans (by unfold Dat.fetched Dat.blockOf iblk; rfl)
theorem before1 (c : Dev nD) (t : Fin (cfgA m hn).N) (d) : (dats m ρ hn 0 c).before (1 : Fin 7) t d = iblk m ρ hn c (1 : Fin 7) t :=
  ((dats m ρ hn 0 c).before_in_eq_fetched (1 : Fin 7) rfl (fun _ => rfl) (fun _ _ _ => rfl)
    (fun t => by rw [after1]; unfold Dat.blockOf iblk; rfl) t d).trans (by unfold Dat.fetched Dat.blockOf iblk; rfl)
theorem before2 (c : Dev nD) (t : Fin (cfgA m hn).N) (d) : (dats m ρ hn 0 c).before (2 : Fin 7) t d = iblk m ρ hn c (2 : Fin 7) t :=
  ((dats m ρ hn 0 c).before_in_eq_fetched (2 : Fin 7) rfl (fun _ => rfl) (fun _ _ _ => rfl)
    (fun t => by rw [after2]; unfold Dat.blockOf iblk; rfl) t d).trans (by unfold Dat.fetched Dat.blockOf iblk; rfl)
theorem before3 (c : Dev nD) (t : Fin (cfgA m hn).N) (d) : (dats m ρ hn 0 c).before (3 : Fin 7) t d = iblk m ρ hn c (3 : Fin 7) t :=
  ((dats m ρ hn 0 c).before_in_eq_fetched (3 : Fin 7) rfl (fun _ => rfl) (fun _ _ _ => rfl)
    (fun t => by rw [after3]; unfold Dat.blockOf iblk; rfl) t d).trans (by unfold Dat.fetched Dat.blockOf iblk; rfl)
theorem before4 (c : Dev nD) (t : Fin (cfgA m hn).N) (d) : (dats m ρ hn 0 c).before (4 : Fin 7) t d = iblk m ρ hn c (4 : Fin 7) t :=
  ((dats m ρ hn 0 c).before_in_eq_fetched (4 : Fin 7) rfl (fun _ => rfl) (fun _ _ _ => rfl)
    (fun t => by rw [after4]; unfold Dat.blockOf iblk; rfl) t d).trans (by unfold Dat.fetched Dat.blockOf iblk; rfl)

/-- One of the two guards holds at every point, so that no point leaves an output block alone. -/
theorem never_idle (i : grid0.Coords) : idle0 (F := FV) (tabs m) 5 i = false := by
  show (!(k0_cond2 _ == 1#1) && !(k0_cond3 _ == 1#1)) = false
  generalize hw : (tabs m).atD 1 (k0_off3 i) = w
  have hw' : (tabs m).atD 1 (k0_off4 i) = w := hw
  rw [hw']
  by_cases h : (show BitVec 32 from w) = 0#32
  · rw [(cond2_iff w).2 h]; rfl
  · rw [(cond3_iff w).2 h]; exact Bool.and_false _
theorem idle5 (t : Fin (cfgA m hn).N) : (cfgA m hn).idle (5 : Fin 7) ((cfgA m hn).grid.coords t) = false := never_idle m _
theorem idle6 (t : Fin (cfgA m hn).N) : (cfgA m hn).idle (6 : Fin 7) ((cfgA m hn).grid.coords t) = false := never_idle m _

end Cert.Proof.Ffn

end
-- ==== Proof.FfnLaunch.lean ====
/- The expert kernel's points, one after another, and its launch: every execution ends with the arguments as they were,
   the two outputs at the blocks its points leave, and every counter at zero. -/
module

public import proofs.«01_k».proof.Proof.FfnData

@[expose] public section

set_option maxRecDepth 16384
set_option Elab.async false

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : Mem) (ρ : Dev nD → PrngReg) (hn : Named m)

/-- The body at a point, on that point's staging buffers. -/
abbrev bodyAt (t : Fin (cfgA m hn).N) : Prog (TpuEff nD τ sig (Elt FV) Λ₀ .tc) PUnit :=
  cc0_ffn (crd m hn t) tabE (Memref.isWhole_whole _) tabV (Memref.isWhole_whole _) (ms0 m hn t) (hs0 m hn t)
    (ms1 m hn t) (hs1 m hn t) (ms2 m hn t) (hs2 m hn t) (ms3 m hn t) (hs3 m hn t) (ms4 m hn t) (hs4 m hn t)
    (ms5 m hn t) (hs5 m hn t) (ms6 m hn t) (hs6 m hn t) (Memref.whole cc0_scratch0) (Memref.isWhole_whole _)
    (Memref.whole cc0_scratch1) (Memref.isWhole_whole _) (Memref.whole cc0_scratch2) (Memref.isWhole_whole _)

/-- The scratches before a point that keeps them hold what the point leaves. -/
theorem keeps (c : Dev nD) (t : Fin (cfgA m hn).N) (s0 s1 : S1024x256.Idx → Elt FV .bf16) (s2 : S256x1024.Idx → Elt FV .bf16)
    (h0 : ∀ h : 0 < t.val, s0 = held0 m ρ hn c ⟨t.val - 1, by omega⟩)
    (h1 : ∀ h : 0 < t.val, s1 = held1 m ρ hn c ⟨t.val - 1, by omega⟩)
    (h2 : ∀ h : 0 < t.val, s2 = held2 m ρ hn c ⟨t.val - 1, by omega⟩) (hl : ¬ Loads (crd m hn t) (expertTab m)) :
    s0 = held0 m ρ hn c t ∧ s1 = held1 m ρ hn c t ∧ s2 = held2 m ρ hn c t := by
  obtain ⟨hp, he⟩ := expert_kept m hn t hl
  obtain ⟨e0, e1, e2⟩ := held_congr m ρ hn c _ _ he
  exact ⟨(h0 hp).trans e0, (h1 hp).trans e1, (h2 hp).trans e2⟩

theorem leftA_rows (c : Dev nD) (t : Fin (cfgA m hn).N) (h : Rows m hn t) : leftA m ρ hn c t
    = outA (iblk m ρ hn c 0 t) (iblk m ρ hn c 1 t) (held0 m ρ hn c t) (held1 m ρ hn c t) (held2 m ρ hn c t) := if_pos h
theorem leftB_rows (c : Dev nD) (t : Fin (cfgA m hn).N) (h : Rows m hn t) : leftB m ρ hn c t
    = outB (iblk m ρ hn c 0 t) (iblk m ρ hn c 1 t) (held0 m ρ hn c t) (held1 m ρ hn c t) (held2 m ρ hn c t) := if_pos h
theorem leftA_pad (c : Dev nD) (t : Fin (cfgA m hn).N) (h : ¬ Rows m hn t) : leftA m ρ hn c t = k0_pay4 (F := FV) := if_neg h
theorem leftB_pad (c : Dev nD) (t : Fin (cfgA m hn).N) (h : ¬ Rows m hn t) : leftB m ρ hn c t = k0_pay5 (F := FV) := if_neg h

theorem guards_rows (t : Fin (cfgA m hn).N) (h : Rows m hn t) :
    ¬(k0_cond2 (padWord (crd m hn t) (validTab m)) = 1#1) ∧ k0_cond3 (rowWord (crd m hn t) (validTab m)) = 1#1 := by
  rw [padWord_eq, rowWord_eq, cond2_iff, cond3_iff]; exact ⟨h, h⟩
theorem guards_pad (t : Fin (cfgA m hn).N) (h : ¬ Rows m hn t) :
    k0_cond2 (padWord (crd m hn t) (validTab m)) = 1#1 ∧ ¬(k0_cond3 (rowWord (crd m hn t) (validTab m)) = 1#1) := by
  rw [padWord_eq, rowWord_eq, cond2_iff, cond3_iff]; exact ⟨not_not.1 h, h⟩

/-- The body at a point, from the invariant before it to the invariant after it. -/
theorem point_runs (c : Dev nD) (t : Fin (cfgA m hn).N) (K : PUnit → sProp Res) :
    iprop(Carry m ρ hn c t.castSucc
        ∗ owns (c : Thread nD τ) (ms0 m hn t) fullShare (iblk m ρ hn c 0 t)
        ∗ owns (c : Thread nD τ) (ms1 m hn t) fullShare (iblk m ρ hn c 1 t)
        ∗ owns (c : Thread nD τ) (ms2 m hn t) fullShare (iblk m ρ hn c 2 t)
        ∗ owns (c : Thread nD τ) (ms3 m hn t) fullShare (iblk m ρ hn c 3 t)
        ∗ owns (c : Thread nD τ) (ms4 m hn t) fullShare (iblk m ρ hn c 4 t)
        ∗ (∃ d, owns (c : Thread nD τ) (ms5 m hn t) fullShare d)
        ∗ (∃ d, owns (c : Thread nD τ) (ms6 m hn t) fullShare d)
        ∗ (Carry m ρ hn c t.succ
          ∗ owns (c : Thread nD τ) (ms0 m hn t) fullShare (iblk m ρ hn c 0 t)
          ∗ owns (c : Thread nD τ) (ms1 m hn t) fullShare (iblk m ρ hn c 1 t)
          ∗ owns (c : Thread nD τ) (ms2 m hn t) fullShare (iblk m ρ hn c 2 t)
          ∗ owns (c : Thread nD τ) (ms3 m hn t) fullShare (iblk m ρ hn c 3 t)
          ∗ owns (c : Thread nD τ) (ms4 m hn t) fullShare (iblk m ρ hn c 4 t)
          ∗ owns (c : Thread nD τ) (ms5 m hn t) fullShare (leftA m ρ hn c t)
          ∗ owns (c : Thread nD τ) (ms6 m hn t) fullShare (leftB m ρ hn c t) -∗ K ⟨⟩))
      ⊢ wp frame (wpE (defs₀ (F := FV)) Variants.none c none) Set.univ (bodyAt m hn t) K := by
  unfold Carry
  iintro ⟨⟨⟨%s0, %h0, HS0⟩, ⟨%s1, %h1, HS1⟩, ⟨%s2, %h2, HS2⟩, HT0, HT1⟩, H0, H1, H2, H3, H4, H5, H6, HK⟩
  by_cases hr : Rows m hn t
  · rw [leftA_rows m ρ hn c t hr, leftB_rows m ρ hn c t hr]
    iapply (run_rows c (crd m hn t) (ms0 m hn t) (hs0 m hn t) (ms1 m hn t) (hs1 m hn t) (ms2 m hn t) (hs2 m hn t)
      (ms3 m hn t) (hs3 m hn t) (ms4 m hn t) (hs4 m hn t) (ms5 m hn t) (hs5 m hn t) (ms6 m hn t) (hs6 m hn t)
      (Memref.whole cc0_scratch0) (Memref.isWhole_whole _) (Memref.whole cc0_scratch1) (Memref.isWhole_whole _)
      (Memref.whole cc0_scratch2) (Memref.isWhole_whole _) (expertTab m) (validTab m)
      (iblk m ρ hn c 0 t) (iblk m ρ hn c 1 t) (iblk m ρ hn c 2 t) (iblk m ρ hn c 3 t) (iblk m ρ hn c 4 t)
      s0 s1 (held0 m ρ hn c t) (held1 m ρ hn c t) s2 (held2 m ρ hn c t) (fun _ => ⟨rfl, rfl, rfl⟩)
      (keeps m ρ hn c t s0 s1 s2 h0 h1 h2) (guards_rows m hn t hr).1 (guards_rows m hn t hr).2 K)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [H6]; · iexact H6
    isplitl [HS0]; · iexact HS0
    isplitl [HS1]; · iexact HS1
    isplitl [HS2]; · iexact HS2
    iintro ⟨H0, H1, H2, H3, H4, HT0, HT1, H5, H6, HS0, HS1, HS2⟩
    iapply HK
    isplitl [HS0 HS1 HS2 HT0 HT1]
    · isplitl [HS0]
      · iexists _; isplitr; swap
        · iexact HS0
        · ipureintro; intro _; rfl
      isplitl [HS1]
      · iexists _; isplitr; swap
        · iexact HS1
        · ipureintro; intro _; rfl
      isplitl [HS2]
      · iexists _; isplitr; swap
        · iexact HS2
        · ipureintro; intro _; rfl
      isplitl [HT0]
      · iexact HT0
      iexact HT1
    isplitl [H0]; · iexact H0
    isplitl [H1]; · iexact H1
    isplitl [H2]; · iexact H2
    isplitl [H3]; · iexact H3
    isplitl [H4]; · iexact H4
    isplitl [H5]; · iexact H5
    iexact H6
  · rw [leftA_pad m ρ hn c t hr, leftB_pad m ρ hn c t hr]
    iapply (run_pad c (crd m hn t) (ms0 m hn t) (hs0 m hn t) (ms1 m hn t) (hs1 m hn t) (ms2 m hn t) (hs2 m hn t)
      (ms3 m hn t) (hs3 m hn t) (ms4 m hn t) (hs4 m hn t) (ms5 m hn t) (hs5 m hn t) (ms6 m hn t) (hs6 m hn t)
      (Memref.whole cc0_scratch0) (Memref.isWhole_whole _) (Memref.whole cc0_scratch1) (Memref.isWhole_whole _)
      (Memref.whole cc0_scratch2) (Memref.isWhole_whole _) (expertTab m) (validTab m)
      (iblk m ρ hn c 0 t) (iblk m ρ hn c 1 t) (iblk m ρ hn c 2 t) (iblk m ρ hn c 3 t) (iblk m ρ hn c 4 t)
      s0 s1 (held0 m ρ hn c t) (held1 m ρ hn c t) s2 (held2 m ρ hn c t) (fun _ => ⟨rfl, rfl, rfl⟩)
      (keeps m ρ hn c t s0 s1 s2 h0 h1 h2) (guards_pad m hn t hr).1 (guards_pad m hn t hr).2 K)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [H6]; · iexact H6
    isplitl [HS0]; · iexact HS0
    isplitl [HS1]; · iexact HS1
    isplitl [HS2]; · iexact HS2
    iintro ⟨H0, H1, H2, H3, H4, HT0, HT1, H5, H6, HS0, HS1, HS2⟩
    iapply HK
    isplitl [HS0 HS1 HS2 HT0 HT1]
    · isplitl [HS0]
      · iexists _; isplitr; swap
        · iexact HS0
        · ipureintro; intro _; rfl
      isplitl [HS1]
      · iexists _; isplitr; swap
        · iexact HS1
        · ipureintro; intro _; rfl
      isplitl [HS2]
      · iexists _; isplitr; swap
        · iexact HS2
        · ipureintro; intro _; rfl
      isplitl [HT0]
      · iexact HT0
      iexact HT1
    isplitl [H0]; · iexact H0
    isplitl [H1]; · iexact H1
    isplitl [H2]; · iexact H2
    isplitl [H3]; · iexact H3
    isplitl [H4]; · iexact H4
    isplitl [H5]; · iexact H5
    iexact H6

set_option maxHeartbeats 4000000 in
/-- The obligation of every point. -/
theorem points_run (c : Dev nD) : BodyObligation (dats m ρ hn 0 c) (defs₀ (F := FV)) Variants.none () Set.univ := fun t => by
  rw [bigSep_W0]
  show iprop((dats m ρ hn 0 c).Φ t.castSucc ∗ (dats m ρ hn 0 c).owesAt () t.castSucc
        ∗ (∃ d, owns (c : Thread nD τ) (ms0 m hn t) fullShare ((dats m ρ hn 0 c).before (0 : Fin 7) t d))
        ∗ (∃ d, owns (c : Thread nD τ) (ms1 m hn t) fullShare ((dats m ρ hn 0 c).before (1 : Fin 7) t d))
        ∗ (∃ d, owns (c : Thread nD τ) (ms2 m hn t) fullShare ((dats m ρ hn 0 c).before (2 : Fin 7) t d))
        ∗ (∃ d, owns (c : Thread nD τ) (ms3 m hn t) fullShare ((dats m ρ hn 0 c).before (3 : Fin 7) t d))
        ∗ (∃ d, owns (c : Thread nD τ) (ms4 m hn t) fullShare ((dats m ρ hn 0 c).before (4 : Fin 7) t d))
        ∗ (∃ d, owns (c : Thread nD τ) (ms5 m hn t) fullShare ((dats m ρ hn 0 c).before (5 : Fin 7) t d))
        ∗ (∃ d, owns (c : Thread nD τ) (ms6 m hn t) fullShare ((dats m ρ hn 0 c).before (6 : Fin 7) t d)))
      ⊢ wp frame (wpE (defs₀ (F := FV)) Variants.none c none) Set.univ (bodyAt m hn t) fun _ =>
          iprop((dats m ρ hn 0 c).Φ t.succ ∗ (dats m ρ hn 0 c).owesAt () t.succ
            ∗ bigSep Finset.univ fun w : Fin (cfgA m hn).W =>
                match (cfgA m hn).idle w ((cfgA m hn).grid.coords t) with
                | true =>
                  match ((cfgA m hn).win w).flush t with
                  | false => iprop(∃ d, owns (c : Thread nD τ) (((cfgA m hn).win w).stage ((cfgA m hn).slots t w)) fullShare ((dats m ρ hn 0 c).before w t d))
                  | true => owns (c : Thread nD τ) (((cfgA m hn).win w).stage ((cfgA m hn).slots t w)) fullShare ((dats m ρ hn 0 c).after w t)
                | false => owns (c : Thread nD τ) (((cfgA m hn).win w).stage ((cfgA m hn).slots t w)) fullShare ((dats m ρ hn 0 c).after w t))
  rw [bigSep_W0]
  rewrite [idle5]
  simp only [before0, before1, before2, before3, before4, after0, after1, after2, after3, after4, after5, after6]
  rewrite [show (dats m ρ hn 0 c).Φ t.succ = Carry m ρ hn c t.succ from rfl,
    show (dats m ρ hn 0 c).Φ t.castSucc = Carry m ρ hn c t.castSucc from rfl,
    show (dats m ρ hn 0 c).owesAt () t.succ = (dats m ρ hn 0 c).owesAt () t.castSucc from rfl]
  iintro ⟨HC, Ho, ⟨%d0, H0⟩, ⟨%d1, H1⟩, ⟨%d2, H2⟩, ⟨%d3, H3⟩, ⟨%d4, H4⟩, ⟨%d5, H5⟩, ⟨%d6, H6⟩⟩
  iapply (point_runs m ρ hn c t _)
  isplitl [HC]; · iexact HC
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨HC, H0, H1, H2, H3, H4, H5, H6⟩
  isplitl [HC]; · iexact HC
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's ghost element. -/
def u₀ : UR sig nD τ :=
  initOf (Pipeline.cells (pcs m hn) ((launch0 (F := FV)).cellOf_inj fun _ => adm m hn))
    (Pipeline.launchToks (pcs m hn) ((launch0 (F := FV)).cellOf_inj fun _ => adm m hn))
theorem share_full (c : Dev nD) (w : Fin (cfgA m hn).W) : (dats m ρ hn 0 c).share w = fullShare := by unfold Dat.share; split <;> rfl

/-- The two tables, one by one. -/
theorem tables_eq (c : Dev nD) (q : Fin 2 → PosShare TreeShare) (v : pre0.Contents (Elt FV)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratches; -/
theorem carry_first (c : Dev nD) :
    iprop(BI.emp ∗ Pipeline.prefHeld pre0 c (fun _ => fullShare.right) (adm m hn).1 ∗ Pipeline.scopedRest spec0 c) ⊢ (dats m ρ hn 0 c).Φ 0 := by
  rw [tables_eq, scopedRest0_eq, show (dats m ρ hn 0 c).Φ 0 = Carry m ρ hn c 0 from rfl]
  unfold Carry
  simp only [owns_whole]
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd h (Nat.lt_irrefl 0)
  isplitl [HS1]
  · iexists a1; isplitr; swap
    · iexact HS1
    · ipureintro; intro h; exact absurd h (Nat.lt_irrefl 0)
  isplitl [HS2]
  · iexists a2; isplitr; swap
    · iexact HS2
    · ipureintro; intro h; exact absurd h (Nat.lt_irrefl 0)
  isplitl [HT0]
  · iexact HT0
  iexact HT1

/-- and after the last point the scratches again. -/
theorem carry_last (c : Dev nD) : (dats m ρ hn 0 c).Φ (Fin.last (cfgA m hn).N) ⊢ iprop(BI.emp ∗ Pipeline.scopedRest spec0 c) := by
  rw [scopedRest0_eq, show (dats m ρ hn 0 c).Φ (Fin.last (cfgA m hn).N) = Carry m ρ hn c (Fin.last _) from rfl]
  unfold Carry
  simp only [owns_whole]
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What a final state holds: the windows' arrays as computed and the tables as launched. -/
def Ends : PUnit × MemSt nD τ sig (Elt FV) → Prop := fun r =>
  ∀ c : Dev nD, (∀ w : Fin (cfgA m hn).W, r.2.mem (((cfgA m hn).win w).arr.view.loc (c : Thread nD τ)) = (dats m ρ hn 0 c).arrAt w (cfgA m hn).N)
    ∧ ∀ j, r.2.mem ((c : Thread nD τ).loc (pre0.ref j)) = (adm m hn).1 j

theorem tables_launched (c : Dev nD) (j : Fin 2) : m ((c : Thread nD τ).loc (pre0.ref j)) = (adm m hn).1 j := by
  obtain rfl : c = 0 := Subsingleton.elim _ _
  rfl

set_option backward.isDefEq.respectTransparency.types false in
set_option maxHeartbeats 4000000 in
/-- Every execution ends so, with every counter at zero. -/
theorem run_ends : θ_run (defs (F := FV)) (onTc (τ := τ) (main (F := FV))) (s₀ m ρ) (fun r => Ends m ρ hn r ∧ r.2.sem = fun _ => 0) :=
  Pipeline.θ_run_region_noSem_pf_quiescent pcfgs (fun _ => adm m hn) (dats m ρ hn) () ((launch0 (F := FV)).cellOf_inj fun _ => adm m hn) (0 : Fin 1)
    (launch0 (F := FV)).win.to₀ (launch0 (F := FV)).pre EP defs₀ Variants.none m ρ main
    (hbody := fun c => (points_run m ρ hn c).loose) (hne := (launch0 (F := FV)).block_pos)
    (harr := (launch0 (F := FV)).arr_whole) (hstage := (launch0 (F := FV)).stage_whole) (howed := fun _ _ => rfl)
    (u₀ := u₀ m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hn) (dats m ρ hn) 0 (launch0 (F := FV)).win.arr_inj c (launch0 (F := FV)).arr_whole
      (share_full m ρ hn c) _ _ fun _ => rfl)
    (hpf := tables_launched m hn)
    (X := fun _ => iprop(emp)) (Y := fun _ => iprop(emp)) (Z := fun _ => iprop(emp))
    (hX := fun c => by rw [unscopedRestP0_eq]; iintro -; isplitr <;> iempintro)
    (hin := carry_first m ρ hn)
    (hout := carry_last m ρ hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hn in
/-- The arguments end as they were launched, and every counter at zero. -/
theorem quiescent : θ_run (defs (F := FV)) (onTc (τ := τ) (main (F := FV))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 0).trans (tables_launched m hn c 0).symm,
    ((h.1 c).2 1).trans (tables_launched m hn c 1).symm,
    ((h.1 c).1 (0 : Fin 7)).trans ((dats m ρ hn 0 c).arrAt_in (0 : Fin 7) rfl _),
    ((h.1 c).1 (1 : Fin 7)).trans ((dats m ρ hn 0 c).arrAt_in (1 : Fin 7) rfl _),
    ((h.1 c).1 (2 : Fin 7)).trans ((dats m ρ hn 0 c).arrAt_in (2 : Fin 7) rfl _),
    ((h.1 c).1 (3 : Fin 7)).trans ((dats m ρ hn 0 c).arrAt_in (3 : Fin 7) rfl _),
    ((h.1 c).1 (4 : Fin 7)).trans ((dats m ρ hn 0 c).arrAt_in (4 : Fin 7) rfl _)⟩, h.2⟩) (run_ends m ρ hn)

end Cert.Proof.Ffn

end
-- ==== Proof.FfnToken.lean ====
/- One token through one expert, as mathematics: its four quarter rows, the two gated projections, and the projection
   back to the model's width. -/
module

public import Idealize.ShloMosaic.PureOps.Ideal

@[expose] public section

noncomputable section

namespace Cert.Proof.Ffn

open Idealize.ShloMosaic

/-- A token's row of 1024 features, put together from its four quarters. -/
def quarters (q0 q1 q2 q3 : Fin 256 → EReal) (k : Fin 1024) : EReal :=
  if h0 : k.val < 256 then q0 ⟨k.val, h0⟩
  else if h1 : k.val - 256 < 256 then q1 ⟨k.val - 256, h1⟩
  else if h2 : k.val - 256 - 256 < 256 then q2 ⟨k.val - 256 - 256, h2⟩
  else q3 ⟨k.val - 256 - 256 - 256, by omega⟩

/-- The token's row against one hidden unit's column. -/
def project (x : Fin 1024 → EReal) (w : Fin 1024 → Fin 256 → EReal) (f : Fin 256) : EReal :=
  ∑ k : Fin 1024, x k * w k f

/-- The gated hidden unit: the gate's value times its logistic, times the second projection. -/
def hidden (x : Fin 1024 → EReal) (g u : Fin 1024 → Fin 256 → EReal) (f : Fin 256) : EReal :=
  project x g f * Idealize.ShloMosaic.Ideal.logistic (project x g f) * project x u f

/-- What the expert answers for the token, feature by feature. -/
def answer (x : Fin 1024 → EReal) (g u : Fin 1024 → Fin 256 → EReal) (d : Fin 256 → Fin 1024 → EReal) (j : Fin 1024) : EReal :=
  ∑ f : Fin 256, hidden x g u f * d f j

theorem quarters_congr {a a' b b' c c' d d' : Fin 256 → EReal} (ha : a = a') (hb : b = b') (hc : c = c') (hd : d = d') :
    quarters a b c d = quarters a' b' c' d' := by
  subst ha hb hc hd; rfl

theorem answer_congr {x x' : Fin 1024 → EReal} {g g' u u' : Fin 1024 → Fin 256 → EReal} {d d' : Fin 256 → Fin 1024 → EReal}
    (hx : x = x') (hg : g = g') (hu : u = u') (hd : d = d') (j : Fin 1024) : answer x g u d j = answer x' g' u' d' j := by
  subst hx hg hu hd; rfl

end Cert.Proof.Ffn

end
-- ==== Proof.FfnPay.lean ====
/- The body's pure expressions read at an index: each row of the two output blocks is half a token's answer. -/
module

public import proofs.«01_k».proof.Proof.FfnToken
public import proofs.«01_k».proof.Proof.FfnBody
public import Idealize.ShloMosaic.Lib.Pointwise

@[expose] public section

set_option maxRecDepth 16384

noncomputable section

namespace Cert.Proof.Ffn

open Cert.Kernel2Ideal Cert.Kernel2Ideal.Gen
open Idealize.ShloMosaic

/-- The expert's matmuls on the packed rows: token `r` of the block answered from its four quarter rows. -/
theorem pay7_apply (a b g u : Vec FV S1024x256 .bf16) (d : Vec FV S256x1024 .bf16) (r : Fin 512) (j : Fin 1024) :
    (show S512x1024.Idx → EReal from k0_pay7 (F := FV) a b g u d) (ix2 r j)
      = answer (quarters (fun c => a (ix2 ⟨2 * r.val, by omega⟩ c)) (fun c => b (ix2 ⟨2 * r.val, by omega⟩ c))
          (fun c => a (ix2 ⟨2 * r.val + 1, by omega⟩ c)) (fun c => b (ix2 ⟨2 * r.val + 1, by omega⟩ c)))
          (fun k f => g (ix2 k f)) (fun k f => u (ix2 k f)) (fun f j => d (ix2 f j)) j := by
  pointwise [k0_pay7, answer, hidden, project, quarters]

/-- The first output block: the first half of each half of the answers, the two halves on alternate rows. -/
theorem outA_apply (a b g u : Vec FV S1024x256 .bf16) (d : Vec FV S256x1024 .bf16) (i : Fin 1024) (c : Fin 256) :
    (show S1024x256.Idx → EReal from k0_pay8 (F := FV) a b g u d) (ix2 i c)
      = (show S512x1024.Idx → EReal from k0_pay7 (F := FV) a b g u d) (ix2 ⟨i.val / 2, by omega⟩ ⟨i.val % 2 * 512 + c.val, by omega⟩) := by
  pointwise [k0_pay8]
  rcases Nat.mod_two_eq_zero_or_one i.val with e | e
  · rw [if_pos e]
    exact congrArg (fun t : Fin 1024 => (show S512x1024.Idx → EReal from (k0_pay7 a b g u d)) (ix2 ⟨i.val / 2, by omega⟩ t)) (Fin.ext (by dsimp only; omega))
  · rw [if_neg (by omega)]
    exact congrArg (fun t : Fin 1024 => (show S512x1024.Idx → EReal from (k0_pay7 a b g u d)) (ix2 ⟨i.val / 2, by omega⟩ t)) (Fin.ext (by dsimp only; omega))

/-- The second output block: the second half of each half, laid out the same way. -/
theorem outB_apply (y : FVec FV S512x1024 .f32) (i : Fin 1024) (c : Fin 256) :
    (show S1024x256.Idx → EReal from k0_pay6 (F := FV) y) (ix2 i c)
      = (show S512x1024.Idx → EReal from y) (ix2 ⟨i.val / 2, by omega⟩ ⟨i.val % 2 * 512 + 256 + c.val, by omega⟩) := by
  pointwise [k0_pay6]
  rcases Nat.mod_two_eq_zero_or_one i.val with e | e
  · rw [if_pos e]
    exact congrArg (fun t : Fin 1024 => (show S512x1024.Idx → EReal from y) (ix2 ⟨i.val / 2, by omega⟩ t)) (Fin.ext (by dsimp only; omega))
  · rw [if_neg (by omega)]
    exact congrArg (fun t : Fin 1024 => (show S512x1024.Idx → EReal from y) (ix2 ⟨i.val / 2, by omega⟩ t)) (Fin.ext (by dsimp only; omega))

end Cert.Proof.Ffn

end
-- ==== Proof.FfnRef.lean ====
/- The reference's term read at an index: the chosen expert's answer for the row's token, and zero where no expert is
   chosen. -/
module

public import proofs.«01_k».proof.Proof.FfnToken
public import proofs.«01_k».proof.Proof.Gen.Reference2Ideal.Run
public import Idealize.ShloMosaic.Lib.Pointwise
public import Idealize.ShloMosaic.Lib.WordCmp

@[expose] public section

set_option maxRecDepth 16384

noncomputable section

namespace Cert.Proof.FfnRef

open Cert.Reference2Ideal Cert.Reference2Ideal.Gen
open Idealize.ShloMosaic Idealize.ShloMosaic.TcCoe
open Cert.Proof.Ffn (quarters project answer)

abbrev FV : FTy → Type := Idealize.ShloMosaic.Ideal

/-- The tokens' rows, put together from the two halves' packed rows. -/
def tokens (xa xb : FVec FV S327680x256 .bf16) : FVec FV S163840x1024 .f32 :=
  shapeCast _ (concatenate S163840x2x2x256 2 [⟨S163840x2x1x256, (broadcastInDim S163840x2x1x256 ![0, 1, 3] bcast_S163840x2x256_S163840x2x1x256_0_1_3 (shapeCast _ (extf .f32 xa bitsLt_bf16_f32) shapeCasts_S327680x256_S163840x2x256))⟩, ⟨S163840x2x1x256, (broadcastInDim S163840x2x1x256 ![0, 1, 3] bcast_S163840x2x256_S163840x2x1x256_0_1_3 (shapeCast _ (extf .f32 xb bitsLt_bf16_f32) shapeCasts_S327680x256_S163840x2x256))⟩] concatenates_S163840x2x1x256_S163840x2x1x256_S163840x2x2x256_d2) shapeCasts_S163840x2x2x256_S163840x1024

/-- An array read at equal positions. -/
theorem read_eq (x : FVec FV S327680x256 .bf16) {a a' b b' : Nat} (ha : a < 327680) (ha' : a' < 327680) (hb : b < 256) (hb' : b' < 256)
    (ea : a = a') (eb : b = b') : x (ix2 ⟨a, ha⟩ ⟨b, hb⟩) = x (ix2 ⟨a', ha'⟩ ⟨b', hb'⟩) := by
  subst ea; subst eb; rfl

/-- A token's row is its four quarter rows in order. -/
theorem tokens_apply (xa xb : FVec FV S327680x256 .bf16) (r : Fin 163840) (k : Fin 1024) :
    (show S163840x1024.Idx → EReal from tokens xa xb) (ix2 r k)
      = quarters (fun c => xa (ix2 ⟨2 * r.val, by omega⟩ c)) (fun c => xb (ix2 ⟨2 * r.val, by omega⟩ c))
          (fun c => xa (ix2 ⟨2 * r.val + 1, by omega⟩ c)) (fun c => xb (ix2 ⟨2 * r.val + 1, by omega⟩ c)) k := by
  pointwise [tokens, quarters]
  by_cases h0 : k.val < 256
  · have e : k.val / 256 % 2 < 1 := by omega
    refine (dif_pos e).trans (Eq.trans ?_ (dif_pos h0).symm)
    exact read_eq xa _ _ _ _ (by omega) (by omega)
  refine Eq.trans ?_ (dif_neg h0).symm
  by_cases h1 : k.val - 256 < 256
  · have e : ¬ k.val / 256 % 2 < 1 := by omega
    refine (dif_neg e).trans (Eq.trans ?_ (dif_pos h1).symm)
    exact read_eq xb _ _ _ _ (by omega) (by omega)
  refine Eq.trans ?_ (dif_neg h1).symm
  by_cases h2 : k.val - 256 - 256 < 256
  · have e : k.val / 256 % 2 < 1 := by omega
    refine (dif_pos e).trans (Eq.trans ?_ (dif_pos h2).symm)
    exact read_eq xa _ _ _ _ (by omega) (by omega)
  · have e : ¬ k.val / 256 % 2 < 1 := by omega
    refine (dif_neg e).trans (Eq.trans ?_ (dif_neg h2).symm)
    exact read_eq xb _ _ _ _ (by omega) (by omega)

/-- One projection of every token for every expert. -/
def projected (x : FVec FV S163840x1024 .f32) (w : FVec FV S64x1024x256 .f32) : FVec FV S64x163840x256 .f32 :=
  transpose S64x163840x256 [0, 2, 1] (Host.dotGeneral (F := FV) dot_S64x1024x256_S163840x1024_S64x256x163840_1_1_02_0_n_n none w x) transposes_S64x256x163840_S64x163840x256_0_2_1

theorem projected_apply (x : FVec FV S163840x1024 .f32) (w : FVec FV S64x1024x256 .f32) (e : Fin 64) (r : Fin 163840) (f : Fin 256) :
    (show S64x163840x256.Idx → EReal from projected x w) (ix3 e r f)
      = project (fun k => x (ix2 r k)) (fun k f => w (ix3 e k f)) f := by
  pointwise [projected, project]
  exact Finset.sum_congr rfl fun k _ => mul_comm _ _

/-- Every expert's answer for every token. -/
def answers (x : FVec FV S163840x1024 .f32) (g u : FVec FV S64x1024x256 .f32) (d : FVec FV S64x256x1024 .f32) : FVec FV S64x163840x1024 .f32 :=
  Host.dotGeneral (F := FV) dot_S64x163840x256_S64x256x1024_S64x163840x1024_2_1_1_2_0_0 none (mulf (mulf (projected x g) (Host.divf (broadcastInDim S64x163840x256 ![] bcast_S_S64x163840x256 (constant S_ .f32 0x3F800000#32)) (addf (broadcastInDim S64x163840x256 ![] bcast_S_S64x163840x256 (constant S_ .f32 0x3F800000#32)) (Host.exp (Host.negf (projected x g)))))) (projected x u)) d

theorem answers_apply (x : FVec FV S163840x1024 .f32) (g u : FVec FV S64x1024x256 .f32) (d : FVec FV S64x256x1024 .f32) (e : Fin 64) (r : Fin 163840) (j : Fin 1024) :
    (show S64x163840x1024.Idx → EReal from answers x g u d) (ix3 e r j)
      = answer (fun k => x (ix2 r k)) (fun k f => g (ix3 e k f)) (fun k f => u (ix3 e k f)) (fun f j => d (ix3 e f j)) j := by
  pointwise [answers, answer, Cert.Proof.Ffn.hidden, projected_apply, Ideal.logistic]

/-- For every token and expert, one where the token's chunk holds rows and names the expert, else zero. -/
def chosen (ce cv : IVec S320 32) : FVec FV S64x163840x1024 .f32 :=
  broadcastInDim S64x163840x1024 ![0, 1, 2] bcast_S64x163840x1_S64x163840x1024_0_1_2 (broadcastInDim S64x163840x1 ![0, 1] bcast_S64x163840_S64x163840x1_0_1 (transpose S64x163840 [1, 0] (uitofp .f32 (shapeCast _ (broadcastInDim S320x512x64 ![0, 1, 2] bcast_S320x1x64_S320x512x64_0_1_2 (broadcastInDim S320x1x64 ![0, 2] bcast_S320x64_S320x1x64_0_2 (andi (cmpi .eq (broadcastInDim S320x64 ![0, 1] bcast_S320x1_S320x64_0_1 (broadcastInDim S320x1 ![0] bcast_S320_S320x1_0 ce)) (broadcastInDim S320x64 ![0, 1] bcast_S1x64_S320x64_0_1 (broadcastInDim S1x64 ![1] bcast_S64_S1x64_1 (iotaInDim S64 32 0)))) (broadcastInDim S320x64 ![0, 1] bcast_S320x1_S320x64_0_1 (broadcastInDim S320x1 ![0] bcast_S320_S320x1_0 (cmpi .ne cv (broadcastInDim S320 ![] bcast_S_S320 (constantI S_ 32 0#32)))))))) shapeCasts_S320x512x64_S163840x64)) transposes_S163840x64_S64x163840_1_0))

/-- The choice's bit, as a number. -/
theorem bit_eq (x y e : BitVec 32) :
    (show EReal from FloatOps.uitofp (F := FV) .f32 (IntOp.andi (IntOp.cmpi .eq x e) (IntOp.cmpi .ne y 0#32)))
      = if x = e ∧ y ≠ 0#32 then 1 else 0 := by
  rw [WordCmp.cmpi_eq_eq, WordCmp.cmpi_ne_eq, WordCmp.andi_ofBool]
  show (((BitVec.ofBool (decide (x = e) && decide (y ≠ 0#32))).toNat : ℝ) : EReal) = _
  by_cases h1 : x = e
  · by_cases h2 : y ≠ 0#32
    · rw [if_pos ⟨h1, h2⟩, decide_eq_true h1, decide_eq_true h2]; simp
    · rw [if_neg (fun h => h2 h.2), decide_eq_false h2]; simp
  · rw [if_neg (fun h => h1 h.1), decide_eq_false h1]; simp

theorem chosen_apply (ce cv : IVec S320 32) (e : Fin 64) (r : Fin 163840) (j : Fin 1024) :
    (show S64x163840x1024.Idx → EReal from chosen ce cv) (ix3 e r j)
      = if ce (ix1 ⟨r.val / 512, by omega⟩) = BitVec.ofNat 32 e.val ∧ cv (ix1 ⟨r.val / 512, by omega⟩) ≠ 0#32 then 1 else 0 := by
  pointwise [chosen]
  exact bit_eq _ _ _

/-- The combined answers of every token. -/
def combined (ce cv : IVec S320 32) (xa xb : FVec FV S327680x256 .bf16) (g u : FVec FV S64x1024x256 .f32) (d : FVec FV S64x256x1024 .f32) : FVec FV S163840x1024 .f32 :=
  Host.reduceAdd (F := FV) (mulf (chosen ce cv) (answers (tokens xa xb) g u d)) (constant S_ .f32 0x00000000#32) reducesTo_S64x163840x1024_S163840x1024_d0 h_S_

theorem combined_apply (ce cv : IVec S320 32) (xa xb : FVec FV S327680x256 .bf16) (g u : FVec FV S64x1024x256 .f32) (d : FVec FV S64x256x1024 .f32) (r : Fin 163840) (j : Fin 1024) :
    (show S163840x1024.Idx → EReal from combined ce cv xa xb g u d) (ix2 r j)
      = ∑ e : Fin 64, chosen ce cv (ix3 e r j) * answers (tokens xa xb) g u d (ix3 e r j) := by
  pointwise [combined]

/-- Half `p` of every token's answer, as packed rows. -/
def half0 (y : FVec FV S163840x1024 .f32) : FVec FV S327680x256 .bf16 :=
  truncf .bf16 (shapeCast _ (shapeCast _ (extractStridedSlice S163840x2x1x256 ![0, 0, 0, 0] (shapeCast _ y shapeCasts_S163840x1024_S163840x2x2x256) slices_S163840x2x2x256_S163840x2x1x256_0_0_0_0) shapeCasts_S163840x2x1x256_S163840x2x256) shapeCasts_S163840x2x256_S327680x256) bitsLt_bf16_f32

theorem half0_apply (y : FVec FV S163840x1024 .f32) (i : Fin 327680) (c : Fin 256) :
    (show S327680x256.Idx → EReal from half0 y) (ix2 i c)
      = (show S163840x1024.Idx → EReal from y) (ix2 ⟨i.val / 2, by omega⟩ ⟨i.val % 2 * 512 + c.val, by omega⟩) := by
  pointwise [half0]

def half1 (y : FVec FV S163840x1024 .f32) : FVec FV S327680x256 .bf16 :=
  truncf .bf16 (shapeCast _ (shapeCast _ (extractStridedSlice S163840x2x1x256 ![0, 0, 1, 0] (shapeCast _ y shapeCasts_S163840x1024_S163840x2x2x256) slices_S163840x2x2x256_S163840x2x1x256_0_0_1_0) shapeCasts_S163840x2x1x256_S163840x2x256) shapeCasts_S163840x2x256_S327680x256) bitsLt_bf16_f32

theorem half1_apply (y : FVec FV S163840x1024 .f32) (i : Fin 327680) (c : Fin 256) :
    (show S327680x256.Idx → EReal from half1 y) (ix2 i c)
      = (show S163840x1024.Idx → EReal from y) (ix2 ⟨i.val / 2, by omega⟩ ⟨i.val % 2 * 512 + 256 + c.val, by omega⟩) := by
  pointwise [half1]

/-- What the layer's experts answer at one feature of one token: its chunk's expert's answer, or zero for padding. -/
def want (ce cv : IVec S320 32) (xa xb : FVec FV S327680x256 .bf16) (g u : FVec FV S64x1024x256 .f32) (d : FVec FV S64x256x1024 .f32)
    (hn : ∀ x : S320.Idx, (show BitVec 32 from ce x).toNat < 64) (r : Fin 163840) (j : Fin 1024) : EReal :=
  if cv (ix1 ⟨r.val / 512, by omega⟩) ≠ 0#32 then
    answer (quarters (fun c => xa (ix2 ⟨2 * r.val, by omega⟩ c)) (fun c => xb (ix2 ⟨2 * r.val, by omega⟩ c))
        (fun c => xa (ix2 ⟨2 * r.val + 1, by omega⟩ c)) (fun c => xb (ix2 ⟨2 * r.val + 1, by omega⟩ c)))
      (fun k f => g (ix3 ⟨_, hn (ix1 ⟨r.val / 512, by omega⟩)⟩ k f)) (fun k f => u (ix3 ⟨_, hn (ix1 ⟨r.val / 512, by omega⟩)⟩ k f))
      (fun f j => d (ix3 ⟨_, hn (ix1 ⟨r.val / 512, by omega⟩)⟩ f j)) j
  else 0

/-- The sum over all the experts keeps the one the chunk names. -/
theorem combined_eq (ce cv : IVec S320 32) (xa xb : FVec FV S327680x256 .bf16) (g u : FVec FV S64x1024x256 .f32) (d : FVec FV S64x256x1024 .f32)
    (hn : ∀ x : S320.Idx, (show BitVec 32 from ce x).toNat < 64) (r : Fin 163840) (j : Fin 1024) :
    (show S163840x1024.Idx → EReal from combined ce cv xa xb g u d) (ix2 r j) = want ce cv xa xb g u d hn r j := by
  refine (combined_apply ce cv xa xb g u d r j).trans ?_
  simp only [chosen_apply, answers_apply, tokens_apply]
  unfold want
  by_cases hv : cv (ix1 ⟨r.val / 512, by omega⟩) ≠ 0#32
  · rw [if_pos hv]
    refine (Finset.sum_eq_single (⟨_, hn (ix1 ⟨r.val / 512, by omega⟩)⟩ : Fin 64) ?_ (fun h => absurd (Finset.mem_univ _) h)).trans ?_
    · intro e _ he
      rw [if_neg, zero_mul]
      rintro ⟨h, _⟩
      refine he (Fin.ext ?_)
      show e.val = (show BitVec 32 from ce (ix1 ⟨r.val / 512, by omega⟩)).toNat
      have h' := congrArg (fun w : BitVec 32 => w.toNat) h
      rw [show (ce (ix1 ⟨r.val / 512, by omega⟩) : BitVec 32).toNat = (BitVec.ofNat 32 e.val).toNat from h', BitVec.toNat_ofNat]
      have := e.isLt
      omega
    · rw [if_pos ⟨(BitVec.ofNat_toNat _ _).symm ▸ rfl, hv⟩, one_mul]
  · rw [if_neg hv]
    exact Finset.sum_eq_zero fun e _ => by rw [if_neg (fun h => hv h.2), zero_mul]

section
variable (m : (ℓ : Loc nD τ sig) → Buf (Elt FV) ℓ) (c : Dev nD)

/-- The reference's first result is the first halves of the combined answers. -/
theorem res0_eq : Value.res_out0 (F := FV) m c = half0 (combined (m (c.tc.loc main_arg0)) (m (c.tc.loc main_arg1)) (m (c.tc.loc main_arg2))
    (m (c.tc.loc main_arg3)) (m (c.tc.loc main_arg4)) (m (c.tc.loc main_arg5)) (m (c.tc.loc main_arg6))) := rfl

/-- Its second result is the second halves. -/
theorem res1_eq : Value.res_out1 (F := FV) m c = half1 (combined (m (c.tc.loc main_arg0)) (m (c.tc.loc main_arg1)) (m (c.tc.loc main_arg2))
    (m (c.tc.loc main_arg3)) (m (c.tc.loc main_arg4)) (m (c.tc.loc main_arg5)) (m (c.tc.loc main_arg6))) := rfl
end

end Cert.Proof.FfnRef

end
-- ==== Proof.FfnValue.lean ====
/- What the expert kernel leaves in its two results: each row is half of its token's answer, as the reference has it. -/
module

public import proofs.«01_k».proof.Proof.FfnLaunch
public import proofs.«01_k».proof.Proof.FfnPay
public import proofs.«01_k».proof.Proof.FfnRef
public import proofs.«01_k».proof.Proof.Gen.Pre_chunks_name_experts
public import Idealize.ShloMosaic.Lib.Pipeline.Kit
public import Idealize.ShloMosaic.Lib.Pipeline.Value
public import Idealize.ShloMosaic.Lib.Pointwise
public import Idealize.ShloMosaic.Lib.WordCmp

@[expose] public section

set_option maxRecDepth 16384
set_option Elab.async false

noncomputable section

namespace Cert.Proof.Ffn

open Cert.Kernel2Ideal Cert.Kernel2Ideal.Gen
open Idealize.ShloMosaic Idealize.ShloMosaic.TcCoe
open Idealize.ShloMosaic.Pipeline (Dat Cfg Window)

/-- An index map's first coordinate is the grid point. -/
theorem point_word (i : grid0.Coords) : (BitVec.ofNat 32 (i 0).val).toNat = (i 0).val := by
  have h : (i 0).val < 320 := (i 0).isLt
  rw [BitVec.toNat_ofNat]; exact Nat.mod_eq_of_lt (by omega)

variable (m : Mem) (ρ : Dev nD → PrngReg) (hn : Named m)

theorem point_lt (t : Fin (cfgA m hn).N) : t.val < 320 := lt_of_lt_of_eq t.isLt N_0

theorem iblk0_apply (c : Dev nD) (t : Fin (cfgA m hn).N) (i : Fin 1024) (j : Fin 256) :
    (show S1024x256.Idx → Elt FV .bf16 from iblk m ρ hn c 0 t) (ix2 i j)
      = m ((c : Thread nD τ).loc main_arg2) (ix2 ⟨t.val * 1024 + i.val, by have := point_lt m hn t; omega⟩ j) := by
  show m _ _ = _
  refine congrArg (m ((c : Thread nD τ).loc main_arg2)) (funext fun a => ?_)
  match a with
  | ⟨0, _⟩ =>
    refine Fin.ext ((show _ = (BitVec.ofNat 32 ((crd m hn t) 0).val).toNat * 1024 + 1 * i.val from rfl).trans ?_)
    rw [point_word, crd_val, Nat.one_mul]; rfl
  | ⟨1, _⟩ => exact Fin.ext (show 0 * 256 + 1 * j.val = j.val by omega)

theorem iblk1_apply (c : Dev nD) (t : Fin (cfgA m hn).N) (i : Fin 1024) (j : Fin 256) :
    (show S1024x256.Idx → Elt FV .bf16 from iblk m ρ hn c 1 t) (ix2 i j)
      = m ((c : Thread nD τ).loc main_arg3) (ix2 ⟨t.val * 1024 + i.val, by have := point_lt m hn t; omega⟩ j) := by
  show m _ _ = _
  refine congrArg (m ((c : Thread nD τ).loc main_arg3)) (funext fun a => ?_)
  match a with
  | ⟨0, _⟩ =>
    refine Fin.ext ((show _ = (BitVec.ofNat 32 ((crd m hn t) 0).val).toNat * 1024 + 1 * i.val from rfl).trans ?_)
    rw [point_word, crd_val, Nat.one_mul]; rfl
  | ⟨1, _⟩ => exact Fin.ext (show 0 * 256 + 1 * j.val = j.val by omega)

/-- The held weights are the expert's own. -/
theorem held0_apply (c : Dev nD) (t : Fin (cfgA m hn).N) (k : Fin 1024) (f : Fin 256) :
    held0 m ρ hn c t (ix2 k f) = m ((c : Thread nD τ).loc main_arg4) (ix3 (expertOf m hn t) k f) := by
  refine Eq.trans ?_ (iblk2_apply m ρ hn c t (ix3 0 k f))
  unfold held0
  pointwise [k0_pay1]
theorem held1_apply (c : Dev nD) (t : Fin (cfgA m hn).N) (k : Fin 1024) (f : Fin 256) :
    held1 m ρ hn c t (ix2 k f) = m ((c : Thread nD τ).loc main_arg5) (ix3 (expertOf m hn t) k f) := by
  refine Eq.trans ?_ (iblk3_apply m ρ hn c t (ix3 0 k f))
  unfold held1
  pointwise [k0_pay2]
theorem held2_apply (c : Dev nD) (t : Fin (cfgA m hn).N) (f : Fin 256) (j : Fin 1024) :
    held2 m ρ hn c t (ix2 f j) = m ((c : Thread nD τ).loc main_arg6) (ix3 (expertOf m hn t) f j) := by
  refine Eq.trans ?_ (iblk4_apply m ρ hn c t (ix3 0 f j))
  unfold held2
  pointwise [k0_pay3]

include hn in
/-- The tables on any core are the launched ones. -/
theorem expert_table (c : Dev nD) : m ((c : Thread nD τ).loc main_arg0) = expertTab m := tables_launched m hn c 0
include hn in
theorem valid_table (c : Dev nD) : m ((c : Thread nD τ).loc main_arg1) = validTab m := tables_launched m hn c 1

include hn in
theorem named_at (c : Dev nD) (x : S320.Idx) : (show BitVec 32 from m ((c : Thread nD τ).loc main_arg0) x).toNat < 64 := by
  rw [expert_table m hn c]; exact hn x

/-- The layer's answers at this memory. -/
abbrev wanted (c : Dev nD) : Fin 163840 → Fin 1024 → EReal :=
  FfnRef.want (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (named_at m hn c)

theorem slot_eq (t : Fin (cfgA m hn).N) {r : Nat} (h : r < 320) (e : r = t.val) : slotOf (crd m hn t) = ix1 ⟨r, h⟩ := by
  funext a
  match a with
  | ⟨0, _⟩ => exact Fin.ext ((crd_val m hn t).trans e.symm)

/-- The answer a point computes for token `r` of its block is the layer's. -/
theorem answer_at (c : Dev nD) (t : Fin (cfgA m hn).N) (h : Rows m hn t) (r : Fin 512) (j : Fin 1024) :
    (show S512x1024.Idx → EReal from k0_pay7 (F := FV) (iblk m ρ hn c 0 t) (iblk m ρ hn c 1 t) (held0 m ρ hn c t) (held1 m ρ hn c t) (held2 m ρ hn c t)) (ix2 r j)
      = wanted m hn c ⟨t.val * 512 + r.val, by have := point_lt m hn t; omega⟩ j := by
  have ht := point_lt m hn t
  have hs := slot_eq m hn t (r := (t.val * 512 + r.val) / 512) (by omega) (by omega)
  have ev : m ((c : Thread nD τ).loc main_arg1) (ix1 ⟨(t.val * 512 + r.val) / 512, by omega⟩) = validTab m (slotOf (crd m hn t)) := by
    rw [valid_table m hn c, hs]
  have ee : (⟨_, named_at m hn c (ix1 ⟨(t.val * 512 + r.val) / 512, by omega⟩)⟩ : Fin 64) = expertOf m hn t := by
    refine Fin.ext ?_
    show (show BitVec 32 from m ((c : Thread nD τ).loc main_arg0) (ix1 ⟨(t.val * 512 + r.val) / 512, by omega⟩)).toNat
      = (show BitVec 32 from expertTab m (slotOf (crd m hn t))).toNat
    rw [expert_table m hn c, hs]
  refine (pay7_apply _ _ _ _ _ r j).trans ?_
  unfold wanted FfnRef.want
  rw [if_pos (show _ ≠ 0#32 from fun e => h (ev.symm.trans e))]
  have row0 : ∀ (x y : Nat) (hx : x < 1024) (hy : y < 327680) (k : Fin 256), y = t.val * 1024 + x →
      (show S1024x256.Idx → Elt FV .bf16 from iblk m ρ hn c 0 t) (ix2 ⟨x, hx⟩ k) = m ((c : Thread nD τ).loc main_arg2) (ix2 ⟨y, hy⟩ k) := by
    rintro x y hx hy k rfl; exact iblk0_apply m ρ hn c t ⟨x, hx⟩ k
  have row1 : ∀ (x y : Nat) (hx : x < 1024) (hy : y < 327680) (k : Fin 256), y = t.val * 1024 + x →
      (show S1024x256.Idx → Elt FV .bf16 from iblk m ρ hn c 1 t) (ix2 ⟨x, hx⟩ k) = m ((c : Thread nD τ).loc main_arg3) (ix2 ⟨y, hy⟩ k) := by
    rintro x y hx hy k rfl; exact iblk1_apply m ρ hn c t ⟨x, hx⟩ k
  have eg : (fun (k : Fin 1024) (f : Fin 256) => held0 m ρ hn c t (ix2 k f)) = fun k f => m ((c : Thread nD τ).loc main_arg4) (ix3 _ k f) :=
    funext fun k => funext fun f => (held0_apply m ρ hn c t k f).trans (congrArg (fun e => m ((c : Thread nD τ).loc main_arg4) (ix3 e k f)) ee.symm)
  have eu : (fun (k : Fin 1024) (f : Fin 256) => held1 m ρ hn c t (ix2 k f)) = fun k f => m ((c : Thread nD τ).loc main_arg5) (ix3 _ k f) :=
    funext fun k => funext fun f => (held1_apply m ρ hn c t k f).trans (congrArg (fun e => m ((c : Thread nD τ).loc main_arg5) (ix3 e k f)) ee.symm)
  have ed : (fun (f : Fin 256) (j : Fin 1024) => held2 m ρ hn c t (ix2 f j)) = fun f j => m ((c : Thread nD τ).loc main_arg6) (ix3 _ f j) :=
    funext fun f => funext fun j => (held2_apply m ρ hn c t f j).trans (congrArg (fun e => m ((c : Thread nD τ).loc main_arg6) (ix3 e f j)) ee.symm)
  refine answer_congr (quarters_congr ?_ ?_ ?_ ?_) eg eu ed j
  · exact funext fun k => row0 _ _ _ _ k (by dsimp only; omega)
  · exact funext fun k => row1 _ _ _ _ k (by dsimp only; omega)
  · exact funext fun k => row0 _ _ _ _ k (by dsimp only; omega)
  · exact funext fun k => row1 _ _ _ _ k (by dsimp only; omega)

/-- Where the chunk is padding the layer answers zero. -/
theorem zero_at (c : Dev nD) (t : Fin (cfgA m hn).N) (h : ¬ Rows m hn t) (r : Fin 512) (j : Fin 1024) :
    wanted m hn c ⟨t.val * 512 + r.val, by have := point_lt m hn t; omega⟩ j = 0 := by
  have ht := point_lt m hn t
  have hs := slot_eq m hn t (r := (t.val * 512 + r.val) / 512) (by omega) (by omega)
  have ev : m ((c : Thread nD τ).loc main_arg1) (ix1 ⟨(t.val * 512 + r.val) / 512, by omega⟩) = validTab m (slotOf (crd m hn t)) := by
    rw [valid_table m hn c, hs]
  unfold wanted FfnRef.want
  exact if_neg fun e => h fun e' => e (ev.trans e')

/-- The two blocks a point leaves, row by row. -/
theorem leftA_apply (c : Dev nD) (t : Fin (cfgA m hn).N) (i : Fin 1024) (j : Fin 256) :
    (show S1024x256.Idx → EReal from leftA m ρ hn c t) (ix2 i j)
      = wanted m hn c ⟨t.val * 512 + i.val / 2, by have := point_lt m hn t; omega⟩ ⟨i.val % 2 * 512 + j.val, by omega⟩ := by
  by_cases h : Rows m hn t
  · rw [leftA_rows m ρ hn c t h]
    exact (outA_apply _ _ _ _ _ i j).trans (answer_at m ρ hn c t h ⟨i.val / 2, by omega⟩ _)
  · rw [leftA_pad m ρ hn c t h]
    refine Eq.trans ?_ (zero_at m hn c t h ⟨i.val / 2, by omega⟩ _).symm
    pointwise [k0_pay4]
theorem leftB_apply (c : Dev nD) (t : Fin (cfgA m hn).N) (i : Fin 1024) (j : Fin 256) :
    (show S1024x256.Idx → EReal from leftB m ρ hn c t) (ix2 i j)
      = wanted m hn c ⟨t.val * 512 + i.val / 2, by have := point_lt m hn t; omega⟩ ⟨i.val % 2 * 512 + 256 + j.val, by omega⟩ := by
  by_cases h : Rows m hn t
  · rw [leftB_rows m ρ hn c t h]
    exact (outB_apply _ i j).trans (answer_at m ρ hn c t h ⟨i.val / 2, by omega⟩ _)
  · rw [leftB_pad m ρ hn c t h]
    refine Eq.trans ?_ (zero_at m hn c t h ⟨i.val / 2, by omega⟩ _).symm
    pointwise [k0_pay5]

/-- The two whole results. -/
def resultA (c : Dev nD) : Buf (Elt FV) ((c : Thread nD τ).loc main_v0_0) := fun i : S327680x256.Idx =>
  wanted m hn c ⟨(i 0).val / 2, by have : (i 0).val < 327680 := (i 0).isLt; omega⟩
    ⟨(i 0).val % 2 * 512 + (i 1).val, by have : (i 1).val < 256 := (i 1).isLt; omega⟩
def resultB (c : Dev nD) : Buf (Elt FV) ((c : Thread nD τ).loc main_v0_1) := fun i : S327680x256.Idx =>
  wanted m hn c ⟨(i 0).val / 2, by have : (i 0).val < 327680 := (i 0).isLt; omega⟩
    ⟨(i 0).val % 2 * 512 + 256 + (i 1).val, by have : (i 1).val < 256 := (i 1).isLt; omega⟩

/-- Where an output block's row sits in its array. -/
theorem emb5 (t : Fin (cfgA m hn).N) (y : S1024x256.Idx) :
    (show S327680x256.Idx from (((cfgA m hn).win 5).blk t).view.emb y)
      = ix2 ⟨t.val * 1024 + (y 0).val, by have := point_lt m hn t; have : (y 0).val < 1024 := (y 0).isLt; omega⟩ (y 1) := by
  funext a
  match a with
  | ⟨0, _⟩ =>
    refine Fin.ext ((show _ = (BitVec.ofNat 32 ((crd m hn t) 0).val).toNat * 1024 + 1 * (y 0).val from rfl).trans ?_)
    rw [point_word, crd_val, Nat.one_mul]; rfl
  | ⟨1, _⟩ => exact Fin.ext (show 0 * 256 + 1 * (y 1).val = (y 1).val by omega)
theorem emb6 (t : Fin (cfgA m hn).N) (y : S1024x256.Idx) :
    (show S327680x256.Idx from (((cfgA m hn).win 6).blk t).view.emb y)
      = ix2 ⟨t.val * 1024 + (y 0).val, by have := point_lt m hn t; have : (y 0).val < 1024 := (y 0).isLt; omega⟩ (y 1) := by
  funext a
  match a with
  | ⟨0, _⟩ =>
    refine Fin.ext ((show _ = (BitVec.ofNat 32 ((crd m hn t) 0).val).toNat * 1024 + 1 * (y 0).val from rfl).trans ?_)
    rw [point_word, crd_val, Nat.one_mul]; rfl
  | ⟨1, _⟩ => exact Fin.ext (show 0 * 256 + 1 * (y 1).val = (y 1).val by omega)

theorem at_eq (f : Fin 163840 → Fin 1024 → EReal) {r r' : Fin 163840} {j j' : Fin 1024} (hr : r.val = r'.val) (hj : j.val = j'.val) :
    f r j = f r' j' := by
  rw [Fin.ext hr, Fin.ext hj]

/-- Each output block is written back at its own point. -/
theorem flush5 (t : Fin (cfgA m hn).N) : ((cfgA m hn).win 5).flush t = true := by
  rw [Window.flush_eq_flushOf]
  unfold Window.flushOf
  refine Bool.and_eq_true_iff.2 ⟨rfl, Bool.or_eq_true_iff.2 ?_⟩
  by_cases h : t.val + 1 = (cfgA m hn).grid.N
  · exact .inl (decide_eq_true h)
  · have hl : t.val + 1 < (cfgA m hn).N := by have := t.isLt; exact lt_of_le_of_ne this h
    refine .inr (decide_eq_true ⟨hl, fun e => ?_⟩)
    have e0 : (BitVec.ofNat 32 ((crd m hn ⟨t.val + 1, hl⟩) 0).val).toNat = (BitVec.ofNat 32 ((crd m hn t) 0).val).toNat :=
      congrFun e (0 : Fin 2)
    rw [point_word, point_word, crd_val, crd_val] at e0
    exact absurd e0 (Nat.succ_ne_self _)
theorem flush6 (t : Fin (cfgA m hn).N) : ((cfgA m hn).win 6).flush t = true := by
  rw [Window.flush_eq_flushOf]
  unfold Window.flushOf
  refine Bool.and_eq_true_iff.2 ⟨rfl, Bool.or_eq_true_iff.2 ?_⟩
  by_cases h : t.val + 1 = (cfgA m hn).grid.N
  · exact .inl (decide_eq_true h)
  · have hl : t.val + 1 < (cfgA m hn).N := by have := t.isLt; exact lt_of_le_of_ne this h
    refine .inr (decide_eq_true ⟨hl, fun e => ?_⟩)
    have e0 : (BitVec.ofNat 32 ((crd m hn ⟨t.val + 1, hl⟩) 0).val).toNat = (BitVec.ofNat 32 ((crd m hn t) 0).val).toNat :=
      congrFun e (0 : Fin 2)
    rw [point_word, point_word, crd_val, crd_val] at e0
    exact absurd e0 (Nat.succ_ne_self _)

/-- The first result, whole. -/
theorem arr5 (c : Dev nD) : (dats m ρ hn 0 c).arrAt (5 : Fin 7) (cfgA m hn).N = resultA m hn c := by
  refine (dats m ρ hn 0 c).arrAt_eq_of_cover (5 : Fin 7) (resultA m hn c) (fun t _ => ?_) (fun i => ?_)
  · refine funext fun (y : S1024x256.Idx) => ?_
    show (show S1024x256.Idx → EReal from leftA m ρ hn c t) y = resultA m hn c (show S327680x256.Idx from (((cfgA m hn).win 5).blk t).view.emb y)
    rw [emb5 m hn t y]
    refine (congrArg (show S1024x256.Idx → EReal from leftA m ρ hn c t) (eq_ix2 (n0 := 1024) (n1 := 256) y)).trans ?_
    refine (leftA_apply m ρ hn c t (y 0) (y 1)).trans ?_
    have hy : (y 0).val < 1024 := (y 0).isLt
    have ht := point_lt m hn t
    have hz : (y 1).val < 256 := (y 1).isLt
    unfold resultA
    refine at_eq (wanted m hn c) ?_ ?_
    · show t.val * 512 + (y 0).val / 2 = (t.val * 1024 + (y 0).val) / 2
      omega
    · show (y 0).val % 2 * 512 + (y 1).val = (t.val * 1024 + (y 0).val) % 2 * 512 + (y 1).val
      omega
  · have i' : S327680x256.Idx := i
    have h0 : ((show S327680x256.Idx from i) 0).val < 327680 := ((show S327680x256.Idx from i) 0).isLt
    let t : Fin (cfgA m hn).N := ⟨((show S327680x256.Idx from i) 0).val / 1024, lt_of_lt_of_eq (show _ < 320 by omega) N_0.symm⟩
    let y : S1024x256.Idx := ix2 ⟨((show S327680x256.Idx from i) 0).val % 1024, Nat.mod_lt _ (by decide)⟩ ((show S327680x256.Idx from i) 1)
    refine ⟨t, flush5 m hn t, ?_⟩
    have e : (((cfgA m hn).win 5).blk t).view.emb y = i := by
      refine (emb5 m hn t y).trans (funext fun a => ?_)
      match a with
      | ⟨0, _⟩ =>
        refine Fin.ext ?_
        show ((show S327680x256.Idx from i) 0).val / 1024 * 1024 + ((show S327680x256.Idx from i) 0).val % 1024 = ((show S327680x256.Idx from i) 0).val
        omega
      | ⟨1, _⟩ => rfl
    exact e ▸ (((cfgA m hn).win 5).blk t).view.emb_mem_set y

/-- The second result, whole. -/
theorem arr6 (c : Dev nD) : (dats m ρ hn 0 c).arrAt (6 : Fin 7) (cfgA m hn).N = resultB m hn c := by
  refine (dats m ρ hn 0 c).arrAt_eq_of_cover (6 : Fin 7) (resultB m hn c) (fun t _ => ?_) (fun i => ?_)
  · refine funext fun (y : S1024x256.Idx) => ?_
    show (show S1024x256.Idx → EReal from leftB m ρ hn c t) y = resultB m hn c (show S327680x256.Idx from (((cfgA m hn).win 6).blk t).view.emb y)
    rw [emb6 m hn t y]
    refine (congrArg (show S1024x256.Idx → EReal from leftB m ρ hn c t) (eq_ix2 (n0 := 1024) (n1 := 256) y)).trans ?_
    refine (leftB_apply m ρ hn c t (y 0) (y 1)).trans ?_
    have hy : (y 0).val < 1024 := (y 0).isLt
    have ht := point_lt m hn t
    have hz : (y 1).val < 256 := (y 1).isLt
    unfold resultB
    refine at_eq (wanted m hn c) ?_ ?_
    · show t.val * 512 + (y 0).val / 2 = (t.val * 1024 + (y 0).val) / 2
      omega
    · show (y 0).val % 2 * 512 + 256 + (y 1).val = (t.val * 1024 + (y 0).val) % 2 * 512 + 256 + (y 1).val
      omega
  · have i' : S327680x256.Idx := i
    have h0 : ((show S327680x256.Idx from i) 0).val < 327680 := ((show S327680x256.Idx from i) 0).isLt
    let t : Fin (cfgA m hn).N := ⟨((show S327680x256.Idx from i) 0).val / 1024, lt_of_lt_of_eq (show _ < 320 by omega) N_0.symm⟩
    let y : S1024x256.Idx := ix2 ⟨((show S327680x256.Idx from i) 0).val % 1024, Nat.mod_lt _ (by decide)⟩ ((show S327680x256.Idx from i) 1)
    refine ⟨t, flush6 m hn t, ?_⟩
    have e : (((cfgA m hn).win 6).blk t).view.emb y = i := by
      refine (emb6 m hn t y).trans (funext fun a => ?_)
      match a with
      | ⟨0, _⟩ =>
        refine Fin.ext ?_
        show ((show S327680x256.Idx from i) 0).val / 1024 * 1024 + ((show S327680x256.Idx from i) 0).val % 1024 = ((show S327680x256.Idx from i) 0).val
        omega
      | ⟨1, _⟩ => rfl
    exact e ▸ (((cfgA m hn).win 6).blk t).view.emb_mem_set y

end Cert.Proof.Ffn

end
-- ==== Proof.FfnMain.lean ====
/- The expert kernel's claims: its frames at either floats, its reference's, and that the two end with equal results. -/
module

public import proofs.«01_k».proof.Defs
public import proofs.«01_k».proof.Proof.FfnNamed
public import proofs.«01_k».proof.Proof.FfnValue
public import proofs.«01_k».proof.Proof.FfnBitsLaunch
public import proofs.«01_k».proof.Proof.Gen.Reference2Ideal.Run

@[expose] public section

set_option maxRecDepth 16384

noncomputable section

namespace Cert.Proof.Ffn

open Idealize.ShloMosaic Idealize.ShloMosaic.TcCoe Idealize.SL Idealize.SL.Sem

theorem named_ideal (m : Mem) (h : Cert.Pre_Kernel2Ideal m) : Named m :=
  fun x => Experts.named _ _ _ _ _ _ _ (h _) x

theorem named_bits (m : FfnBits.Mem) (h : Cert.Pre_Kernel2 m) : FfnBits.Named m :=
  fun x => Experts.named _ _ _ _ _ _ _ (h _) x

theorem frame_bits : Cert.quiescent_Kernel2 := fun m g h => FfnBits.quiescent m g (named_bits m h)

theorem frame_ideal : Cert.quiescent_Kernel2Ideal := fun m g h => quiescent m g (named_ideal m h)

theorem frame_reference : Cert.quiescent_Reference2Ideal := fun m g _ =>
  (θ_run Cert.Reference2Ideal.defs _ _).mono (fun r hr => ⟨fun c => (hr c).2.2, sem_eq_zero_of_no_sems (by decide) r.2⟩)
    (Cert.Reference2Ideal.Value.run (F := Idealize.ShloMosaic.Ideal) m g)

section
open Cert.Kernel2Ideal
variable (m : Mem) (hn : Named m) (c : Dev nD)

/-- The reference's first result on the kernel's arguments is the kernel's. -/
theorem refA : FfnRef.half0 (FfnRef.combined (m (c.tc.loc main_arg0)) (m (c.tc.loc main_arg1)) (m (c.tc.loc main_arg2))
    (m (c.tc.loc main_arg3)) (m (c.tc.loc main_arg4)) (m (c.tc.loc main_arg5)) (m (c.tc.loc main_arg6))) = resultA m hn c := by
  refine funext fun (i : S327680x256.Idx) => ?_
  refine (congrArg _ (ValueIdx.eq_ix2 (n0 := 327680) (n1 := 256) i)).trans ?_
  refine (FfnRef.half0_apply _ (i 0) (i 1)).trans ?_
  exact FfnRef.combined_eq _ _ _ _ _ _ _ (named_at m hn c) _ _

/-- The second. -/
theorem refB : FfnRef.half1 (FfnRef.combined (m (c.tc.loc main_arg0)) (m (c.tc.loc main_arg1)) (m (c.tc.loc main_arg2))
    (m (c.tc.loc main_arg3)) (m (c.tc.loc main_arg4)) (m (c.tc.loc main_arg5)) (m (c.tc.loc main_arg6))) = resultB m hn c := by
  refine funext fun (i : S327680x256.Idx) => ?_
  refine (congrArg _ (ValueIdx.eq_ix2 (n0 := 327680) (n1 := 256) i)).trans ?_
  refine (FfnRef.half1_apply _ (i 0) (i 1)).trans ?_
  exact FfnRef.combined_eq _ _ _ _ _ _ _ (named_at m hn c) _ _
end

/-- The chunks' grouped products are the dense layer's. -/
theorem value : Cert.algebraic_Kernel2Ideal_Reference2Ideal := fun m g m' g' h hm => by
  have hn := named_ideal m h
  refine ⟨resultA m hn, resultB m hn, ?_, ?_⟩
  · exact (θ_run Cert.Kernel2Ideal.defs _ _).mono (fun _ h c =>
      ⟨((h.1 c).1 (5 : Fin 7)).trans (arr5 m g hn c), ((h.1 c).1 (6 : Fin 7)).trans (arr6 m g hn c),
        ((h.1 c).2 0).trans (tables_launched m hn c 0).symm,
        ((h.1 c).2 1).trans (tables_launched m hn c 1).symm,
        ((h.1 c).1 (0 : Fin 7)).trans ((dats m g hn 0 c).arrAt_in (0 : Fin 7) rfl _),
        ((h.1 c).1 (1 : Fin 7)).trans ((dats m g hn 0 c).arrAt_in (1 : Fin 7) rfl _),
        ((h.1 c).1 (2 : Fin 7)).trans ((dats m g hn 0 c).arrAt_in (2 : Fin 7) rfl _),
        ((h.1 c).1 (3 : Fin 7)).trans ((dats m g hn 0 c).arrAt_in (3 : Fin 7) rfl _),
        ((h.1 c).1 (4 : Fin 7)).trans ((dats m g hn 0 c).arrAt_in (4 : Fin 7) rfl _)⟩) (run_ends m g hn)
  · refine (θ_run Cert.Reference2Ideal.defs _ _).mono (fun _ hr c => ?_)
      (Cert.Reference2Ideal.Value.run (F := Idealize.ShloMosaic.Ideal) m' g')
    obtain ⟨e0, e1, e2, e3, e4, e5, e6⟩ := hm c
    refine ⟨(hr c).1.trans ((FfnRef.res0_eq m' c).trans ?_), (hr c).2.1.trans ((FfnRef.res1_eq m' c).trans ?_), (hr c).2.2⟩
    · rw [e0, e1, e2, e3, e4, e5, e6]; exact refA m hn c
    · rw [e0, e1, e2, e3, e4, e5, e6]; exact refB m hn c

end Cert.Proof.Ffn

end
-- ==== Proof.FinalWord.lean ====
/- A packed word's halves, as numbers: a bf16 pattern denotes what the f32 pattern denotes that has it on top of zeros. -/
module

public import Idealize.ShloMosaic.PureOps.Ideal

@[expose] public section

noncomputable section

namespace Cert.Proof.Final

open Idealize.ShloMosaic

/-- The wider pattern's fields are the narrow one's, its significand shifted up by sixteen. -/
theorem wide_eq (h : BitVec 16) (w : BitVec 32) (e : w.toNat = h.toNat * 65536) :
    Idealize.ShloMosaic.Ideal.ofBits .f32 w = Idealize.ShloMosaic.Ideal.ofBits .bf16 h := by
  have hs : w.extractLsb' 31 1 = h.extractLsb' 15 1 := by
    apply BitVec.eq_of_toNat_eq
    rw [BitVec.extractLsb'_toNat, BitVec.extractLsb'_toNat, e, Nat.shiftRight_eq_div_pow, Nat.shiftRight_eq_div_pow]
    omega
  have he : (w.extractLsb' 23 8).toNat = (h.extractLsb' 7 8).toNat := by
    rw [BitVec.extractLsb'_toNat, BitVec.extractLsb'_toNat, e, Nat.shiftRight_eq_div_pow, Nat.shiftRight_eq_div_pow]
    omega
  have hf : (w.extractLsb' 0 23).toNat = (h.extractLsb' 0 7).toNat * 65536 := by
    rw [BitVec.extractLsb'_toNat, BitVec.extractLsb'_toNat, e, Nat.shiftRight_eq_div_pow, Nat.shiftRight_eq_div_pow]
    omega
  show Idealize.ShloMosaic.Ideal.ieee 8 23 w = Idealize.ShloMosaic.Ideal.ieee 8 7 h
  unfold Idealize.ShloMosaic.Ideal.ieee
  dsimp only
  rw [show (8 : Nat) + 23 = 31 from rfl, show (8 : Nat) + 7 = 15 from rfl, hs, he, hf]
  have hz : ((h.extractLsb' 0 7).toNat * 65536 = 0) = ((h.extractLsb' 0 7).toNat = 0) := by
    rw [eq_iff_iff]; omega
  simp only [hz]
  generalize (h.extractLsb' 0 7).toNat = fr
  generalize (h.extractLsb' 7 8).toNat = ex
  generalize (if (h.extractLsb' 15 1 == 1#1) = true then (-1 : ℝ) else 1) = sgn
  split
  · rfl
  · split
    · congr 1
      push_cast
      rw [show (-133 : Int) = -149 + 16 by norm_num, zpow_add₀ (by norm_num : (2 : ℝ) ≠ 0),
        show ((2 : ℝ) ^ (16 : Int)) = 65536 by norm_num]
      ring
    · congr 1
      push_cast
      rw [show ((ex : Int) - 127 - 7 : Int) = ((ex : Int) - 127 - 23) + 16 by ring,
        zpow_add₀ (by norm_num : (2 : ℝ) ≠ 0), show ((2 : ℝ) ^ (16 : Int)) = 65536 by norm_num]
      ring

/-- A word's low half as a number: the word shifted up by sixteen bits, read as f32. -/
theorem low_eq (w : BitVec 32) :
    Idealize.ShloMosaic.Ideal.ofBits .f32 (w <<< (16 : Nat))
      = Idealize.ShloMosaic.Ideal.ofBits .bf16 (w.extractLsb' 0 16) := by
  refine wide_eq _ _ ?_
  rw [BitVec.toNat_shiftLeft, BitVec.extractLsb'_toNat, Nat.shiftLeft_eq, Nat.shiftRight_eq_div_pow]
  omega

/-- A word's high half as a number: the word with its low half cleared, read as f32. -/
theorem high_eq (w : BitVec 32) :
    Idealize.ShloMosaic.Ideal.ofBits .f32 (w &&& 4294901760#32)
      = Idealize.ShloMosaic.Ideal.ofBits .bf16 (w.extractLsb' 16 16) := by
  have hw : w &&& 4294901760#32 = (w >>> (16 : Nat)) <<< (16 : Nat) := by
    apply BitVec.eq_of_getLsbD_eq
    intro i hi
    rw [BitVec.getLsbD_and, BitVec.getLsbD_shiftLeft, BitVec.getLsbD_ushiftRight,
      show (4294901760#32 : BitVec 32) = (65535#32 : BitVec 32) <<< (16 : Nat) from by decide,
      BitVec.getLsbD_shiftLeft]
    by_cases h : i < 16
    · simp [h]
    · have e : (65535#32 : BitVec 32).getLsbD (i - 16) = true := by
        have h' : i - 16 < 16 := by omega
        generalize i - 16 = k at h'
        revert k
        decide
      rw [e, show 16 + (i - 16) = i by omega]
      simp [h, hi]
  refine wide_eq _ _ ?_
  rw [hw, BitVec.toNat_shiftLeft, BitVec.toNat_ushiftRight, BitVec.extractLsb'_toNat, Nat.shiftLeft_eq,
    Nat.shiftRight_eq_div_pow]
  have := w.isLt
  omega

end Cert.Proof.Final

end
-- ==== Proof.FinalToken.lean ====
/- One token's last step: the residual plus the two weighted expert rows, read from their packed words, then the norm. -/
module

public import proofs.«01_k».proof.Proof.FfnToken
public import proofs.«01_k».proof.Proof.FinalWord

@[expose] public section

noncomputable section

namespace Cert.Proof.Final

open Idealize.ShloMosaic
open Cert.Proof.Ffn (quarters)

/-- A word's two bf16 halves, as numbers. -/
def low (w : BitVec 32) : EReal := Idealize.ShloMosaic.Ideal.ofBits .bf16 (w.extractLsb' 0 16)
def high (w : BitVec 32) : EReal := Idealize.ShloMosaic.Ideal.ofBits .bf16 (w.extractLsb' 16 16)

/-- An expert's row of 1024 features, from its two rows of packed words. -/
def unpacked (a b : Fin 256 → BitVec 32) (k : Fin 1024) : EReal :=
  quarters (fun c => low (a c)) (fun c => low (b c)) (fun c => high (a c)) (fun c => high (b c)) k

/-- The residual plus the two experts' rows, each by its weight. -/
def mixed (x : Fin 1024 → EReal) (w1 w2 : EReal) (a1 b1 a2 b2 : Fin 256 → BitVec 32) (k : Fin 1024) : EReal :=
  x k + (w1 * unpacked a1 b1 k + w2 * unpacked a2 b2 k)

/-- Two rows' weighted sum, quarter by quarter. -/
theorem quarters_mix (u v : EReal) (p0 p1 p2 p3 q0 q1 q2 q3 : Fin 256 → EReal) (k : Fin 1024) :
    quarters (fun c => u * p0 c + v * q0 c) (fun c => u * p1 c + v * q1 c) (fun c => u * p2 c + v * q2 c) (fun c => u * p3 c + v * q3 c) k
      = u * quarters p0 p1 p2 p3 k + v * quarters q0 q1 q2 q3 k := by
  unfold quarters
  split_ifs <;> rfl

/-- A row over the root of its mean square, by the norm's gain. -/
def normed (z g : Fin 1024 → EReal) (j : Fin 1024) : EReal :=
  z j * Idealize.ShloMosaic.Ideal.rsqrt (Idealize.ShloMosaic.Ideal.div (∑ k : Fin 1024, z k * z k) (Idealize.ShloMosaic.Ideal.ofBits .f32 0x44800000#32)
    + Idealize.ShloMosaic.Ideal.ofBits .f32 0x358637BD#32) * g j

theorem mixed_congr {x x' : Fin 1024 → EReal} {u u' v v' : EReal} {a a' b b' d d' e e' : Fin 256 → BitVec 32} (hx : x = x') (hu : u = u')
    (hv : v = v') (ha : a = a') (hb : b = b') (hd : d = d') (he : e = e') : mixed x u v a b d e = mixed x' u' v' a' b' d' e' := by
  subst hx hu hv ha hb hd he; rfl

theorem normed_congr {z z' g g' : Fin 1024 → EReal} (hz : z = z') (hg : g = g') (j : Fin 1024) : normed z g j = normed z' g' j := by
  subst hz hg; rfl

end Cert.Proof.Final

end
-- ==== Proof.FinalPay.lean ====
/- The last kernel's stored block, read at an index. -/
module

public import proofs.«01_k».proof.Proof.FinalToken
public import proofs.«01_k».proof.Proof.Gen.Kernel3Ideal.Value
public import Idealize.ShloMosaic.Lib.Pointwise
public import Idealize.ShloMosaic.Lib.WordCmp

@[expose] public section

set_option maxRecDepth 16384

noncomputable section

namespace Cert.Proof.Final

open Cert.Kernel3Ideal Cert.Kernel3Ideal.Gen
open Idealize.ShloMosaic Idealize.ShloMosaic.TcCoe
open Cert.Proof.Ffn (quarters)

abbrev FV : FTy → Type := Idealize.ShloMosaic.Ideal

/-- The two weighted rows side by side, as the kernel puts them together. -/
def sides (w0 w1 : Vec FV S1024x1 .f32) (a1 b1 a2 b2 : Vec FV S1x1024x256 .i32) (x : Vec FV S1024x1024 .f32) : FVec FV S1024x1024 .f32 :=
  addf x (concatenate S1024x1024 1 [⟨S1024x256, addf (mulf (broadcastTo S1024x256 w0 broadcasts_S1024x1_S1024x256) (k0_pay3 a1)) (mulf (broadcastTo S1024x256 w1 broadcasts_S1024x1_S1024x256) (k0_pay9 a2))⟩, ⟨S1024x256, addf (mulf (broadcastTo S1024x256 w0 broadcasts_S1024x1_S1024x256) (k0_pay6 b1)) (mulf (broadcastTo S1024x256 w1 broadcasts_S1024x1_S1024x256) (k0_pay12 b2))⟩, ⟨S1024x256, addf (mulf (broadcastTo S1024x256 w0 broadcasts_S1024x1_S1024x256) (k0_pay4 a1)) (mulf (broadcastTo S1024x256 w1 broadcasts_S1024x1_S1024x256) (k0_pay10 a2))⟩, ⟨S1024x256, addf (mulf (broadcastTo S1024x256 w0 broadcasts_S1024x1_S1024x256) (k0_pay7 b1)) (mulf (broadcastTo S1024x256 w1 broadcasts_S1024x1_S1024x256) (k0_pay13 b2))⟩] concatenates_S1024x256_S1024x256_S1024x256_S1024x256_S1024x1024_d1)

theorem low_at (w : BitVec 32) : Idealize.ShloMosaic.Ideal.ofBits .f32 (IntOp.shli .vector w 16#32) = low w := by
  have e : IntOp.shli .vector w 16#32 = w <<< (16 : Nat) := rfl
  rw [e]
  exact low_eq w

theorem high_at (w : BitVec 32) : Idealize.ShloMosaic.Ideal.ofBits .f32 (IntOp.andi w 4294901760#32) = high w := by
  have e : IntOp.andi w 4294901760#32 = w &&& 4294901760#32 := rfl
  rw [e]
  exact high_eq w

theorem sides_apply (w0 w1 : Vec FV S1024x1 .f32) (a1 b1 a2 b2 : Vec FV S1x1024x256 .i32) (x : Vec FV S1024x1024 .f32) (r j : Fin 1024) :
    (show S1024x1024.Idx → EReal from sides w0 w1 a1 b1 a2 b2 x) (ix2 r j)
      = mixed (fun k => x (ix2 r k)) (w0 (ix2 r 0)) (w1 (ix2 r 0)) (fun c => a1 (ix3 0 r c)) (fun c => b1 (ix3 0 r c))
          (fun c => a2 (ix3 0 r c)) (fun c => b2 (ix3 0 r c)) j := by
  pointwise [sides, mixed, unpacked, k0_pay2, k0_pay3, k0_pay4, k0_pay5, k0_pay6, k0_pay7, k0_pay8, k0_pay9, k0_pay10, k0_pay11, k0_pay12, k0_pay13]
  simp only [low_at, high_at]
  refine congrArg (x (ix2 r j) + ·) ?_
  refine Eq.trans ?_ (quarters_mix _ _ _ _ _ _ _ _ _ _ j)
  rfl

theorem pay_apply (w0 w1 : Vec FV S1024x1 .f32) (a1 b1 a2 b2 : Vec FV S1x1024x256 .i32) (x : Vec FV S1024x1024 .f32) (g : Vec FV S1x1024 .f32) (r j : Fin 1024) :
    (show S1024x1024.Idx → EReal from k0_pay1 w0 w1 (k0_pay3 a1) (k0_pay4 a1) (k0_pay6 b1) (k0_pay7 b1) (k0_pay9 a2) (k0_pay10 a2) (k0_pay12 b2) (k0_pay13 b2) (k0_pay14 w0) x g) (ix2 r j)
      = normed (mixed (fun k => x (ix2 r k)) (w0 (ix2 r 0)) (w1 (ix2 r 0)) (fun c => a1 (ix3 0 r c)) (fun c => b1 (ix3 0 r c))
          (fun c => a2 (ix3 0 r c)) (fun c => b2 (ix3 0 r c))) (fun k => g (ix2 0 k)) j := by
  have e : k0_pay1 w0 w1 (k0_pay3 a1) (k0_pay4 a1) (k0_pay6 b1) (k0_pay7 b1) (k0_pay9 a2) (k0_pay10 a2) (k0_pay12 b2) (k0_pay13 b2) (k0_pay14 w0) x g
      = mulf (mulf (sides w0 w1 a1 b1 a2 b2 x) (broadcastTo S1024x1024 (rsqrt (addf (divf (shapeCast S1024x1 (multiReduction .add [1] S1024 (mulf (sides w0 w1 a1 b1 a2 b2 x) (sides w0 w1 a1 b1 a2 b2 x)) 0x00000000#32 reduces_S1024x1024_S1024 (.inl rfl) rfl) shapeCasts_S1024_S1024x1) (broadcast S1024x1 (Scalar.ofBits .f32 0x44800000#32))) (broadcast S1024x1 (Scalar.ofBits .f32 0x358637BD#32)))) broadcasts_S1024x1_S1024x1024)) (broadcastTo S1024x1024 (shapeCast S1x1024 g shapeCasts_S1x1024_S1x1024) broadcasts_S1x1024_S1024x1024) := rfl
  rw [e]
  pointwise [normed, sides_apply]

end Cert.Proof.Final

end
-- ==== Proof.FinalRef.lean ====
/- The reference's term read at an index: the same token's last step. -/
module

public import proofs.«01_k».proof.Proof.FinalToken
public import proofs.«01_k».proof.Proof.Gen.Reference3Ideal.Run
public import Idealize.ShloMosaic.Lib.Pointwise
public import Idealize.ShloMosaic.Lib.BitcastConvert

@[expose] public section

set_option maxRecDepth 16384

noncomputable section

namespace Cert.Proof.FinalRef

open Cert.Reference3Ideal Cert.Reference3Ideal.Gen
open Idealize.ShloMosaic Idealize.ShloMosaic.TcCoe
open Cert.Proof.Ffn (quarters)
open Cert.Proof.Final (low high unpacked mixed normed)

abbrev FV : FTy → Type := Idealize.ShloMosaic.Ideal

/-- The packed words' bf16 pairs, as numbers. -/
def pairs (a b : IVec S131072x256 32) : FVec FV S131072x2x256x2 .f32 :=
  extf .f32 (bitcastToFloat (F := FV) .bf16 (Host.bitcastConvertNarrow S131072x2x256x2 16 (concatenate S131072x2x256 1 [⟨S131072x1x256, (broadcastInDim S131072x1x256 ![0, 2] bcast_S131072x256_S131072x1x256_0_2 a)⟩, ⟨S131072x1x256, (broadcastInDim S131072x1x256 ![0, 2] bcast_S131072x256_S131072x1x256_0_2 b)⟩] concatenates_S131072x1x256_S131072x1x256_S131072x2x256_d1) splits_S131072x2x256_w32_S131072x2x256x2_w16)) bitsLt_bf16_f32

/-- The two experts' rows of every token. -/
def rows (a b : IVec S131072x256 32) : FVec FV S2x65536x1024 .f32 :=
  shapeCast _ (transpose S131072x2x2x256 [0, 3, 1, 2] (pairs a b) transposes_S131072x2x256x2_S131072x2x2x256_0_3_1_2) shapeCasts_S131072x2x2x256_S2x65536x1024

/-- Equal words' halves at equal places are equal. -/
theorem half_eq {v w : BitVec 32} (n n' : Nat) (hn : n = n') (h : v = w) :
    Idealize.ShloMosaic.Ideal.ofBits .bf16 (v.extractLsb' n 16) = Idealize.ShloMosaic.Ideal.ofBits .bf16 (w.extractLsb' n' 16) := by
  subst hn; subst h; rfl

/-- An array read at equal positions. -/
theorem word_eq (x : IVec S131072x256 32) {a a' b b' : Nat} (ha : a < 131072) (ha' : a' < 131072) (hb : b < 256) (hb' : b' < 256)
    (ea : a = a') (eb : b = b') : x (ix2 ⟨a, ha⟩ ⟨b, hb⟩) = x (ix2 ⟨a', ha'⟩ ⟨b', hb'⟩) := by
  subst ea; subst eb; rfl

theorem rows_apply (a b : IVec S131072x256 32) (k : Fin 2) (r : Fin 65536) (j : Fin 1024) :
    (show S2x65536x1024.Idx → EReal from rows a b) (ix3 k r j)
      = unpacked (fun c => a (ix2 ⟨k.val * 65536 + r.val, by omega⟩ c)) (fun c => b (ix2 ⟨k.val * 65536 + r.val, by omega⟩ c)) j := by
  pointwise [rows, pairs, unpacked]
  by_cases h0 : j.val < 256
  · have e : j.val / 256 % 2 < 1 := by omega
    refine Eq.trans ?_ (dif_pos h0).symm
    exact half_eq _ _ (by omega) ((dif_pos e).trans (word_eq a _ _ _ _ rfl (by omega)))
  refine Eq.trans ?_ (dif_neg h0).symm
  by_cases h1 : j.val - 256 < 256
  · have e : ¬ j.val / 256 % 2 < 1 := by omega
    refine Eq.trans ?_ (dif_pos h1).symm
    exact half_eq _ _ (by omega) ((dif_neg e).trans (word_eq b _ _ _ _ rfl (by omega)))
  refine Eq.trans ?_ (dif_neg h1).symm
  by_cases h2 : j.val - 256 - 256 < 256
  · have e : j.val / 256 % 2 < 1 := by omega
    refine Eq.trans ?_ (dif_pos h2).symm
    exact half_eq _ _ (by omega) ((dif_pos e).trans (word_eq a _ _ _ _ rfl (by omega)))
  · have e : ¬ j.val / 256 % 2 < 1 := by omega
    refine Eq.trans ?_ (dif_neg h2).symm
    exact half_eq _ _ (by omega) ((dif_neg e).trans (word_eq b _ _ _ _ rfl (by omega)))

/-- The residual plus the weighted rows. -/
def mixes (x : FVec FV S65536x1024 .f32) (a b : IVec S131072x256 32) (w : FVec FV S65536x128 .f32) : FVec FV S65536x1024 .f32 :=
  addf x (addf (mulf (broadcastInDim S65536x1024 ![0, 1] bcast_S65536x1_S65536x1024_0_1 (extractStridedSlice S65536x1 ![0, 0] w slices_S65536x128_S65536x1_0_0)) (shapeCast _ (extractStridedSlice S1x65536x1024 ![0, 0, 0] (rows a b) slices_S2x65536x1024_S1x65536x1024_0_0_0) shapeCasts_S1x65536x1024_S65536x1024)) (mulf (broadcastInDim S65536x1024 ![0, 1] bcast_S65536x1_S65536x1024_0_1 (extractStridedSlice S65536x1 ![0, 1] w slices_S65536x128_S65536x1_0_1)) (shapeCast _ (extractStridedSlice S1x65536x1024 ![1, 0, 0] (rows a b) slices_S2x65536x1024_S1x65536x1024_1_0_0) shapeCasts_S1x65536x1024_S65536x1024)))

theorem mixes_apply (x : FVec FV S65536x1024 .f32) (a b : IVec S131072x256 32) (w : FVec FV S65536x128 .f32) (r : Fin 65536) (j : Fin 1024) :
    (show S65536x1024.Idx → EReal from mixes x a b w) (ix2 r j)
      = mixed (fun k => x (ix2 r k)) (w (ix2 r 0)) (w (ix2 r 1)) (fun c => a (ix2 ⟨r.val, by omega⟩ c)) (fun c => b (ix2 ⟨r.val, by omega⟩ c))
          (fun c => a (ix2 ⟨65536 + r.val, by omega⟩ c)) (fun c => b (ix2 ⟨65536 + r.val, by omega⟩ c)) j := by
  pointwise [mixes, mixed, rows_apply]

/-- The normed rows: the whole result. -/
def outcome (x : FVec FV S65536x1024 .f32) (a b : IVec S131072x256 32) (w : FVec FV S65536x128 .f32) (g : FVec FV S1024 .f32) : FVec FV S65536x1024 .f32 :=
  mulf (mulf (mixes x a b w) (broadcastInDim S65536x1024 ![0, 1] bcast_S65536x1_S65536x1024_0_1 (Host.rsqrt (addf (Host.divf (broadcastInDim S65536x1 ![0] bcast_S65536_S65536x1_0 (Host.reduceAdd (mulf (mixes x a b w) (mixes x a b w)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

theorem outcome_apply (x : FVec FV S65536x1024 .f32) (a b : IVec S131072x256 32) (w : FVec FV S65536x128 .f32) (g : FVec FV S1024 .f32) (r : Fin 65536) (j : Fin 1024) :
    (show S65536x1024.Idx → EReal from outcome x a b w g) (ix2 r j)
      = normed (mixed (fun k => x (ix2 r k)) (w (ix2 r 0)) (w (ix2 r 1)) (fun c => a (ix2 ⟨r.val, by omega⟩ c)) (fun c => b (ix2 ⟨r.val, by omega⟩ c))
          (fun c => a (ix2 ⟨65536 + r.val, by omega⟩ c)) (fun c => b (ix2 ⟨65536 + r.val, by omega⟩ c))) (fun k => g (ix1 k)) j := by
  pointwise [outcome, normed, mixes_apply]

theorem res_eq (m : (ℓ : Loc nD τ sig) → Buf (Elt FV) ℓ) (c : Dev nD) :
    Cert.Reference3Ideal.Value.res_main_v31 m c
      = outcome (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Proof.FinalRef

end
-- ==== Proof.FinalValue.lean ====
/- What the last kernel leaves in its result: every token's normed row. -/
module

public import proofs.«01_k».proof.Proof.FinalPay
public import proofs.«01_k».proof.Proof.FinalRef
public import Idealize.ShloMosaic.Lib.Pipeline.Kit
public import Idealize.ShloMosaic.Lib.Pipeline.Value
public import Idealize.ShloMosaic.Lib.Pipeline.ValueKit

@[expose] public section

set_option maxRecDepth 16384
set_option Elab.async false

noncomputable section

namespace Cert.Proof.Final

open Cert.Kernel3Ideal Cert.Kernel3Ideal.Gen
open Idealize.ShloMosaic Idealize.ShloMosaic.TcCoe
open Idealize.ShloMosaic.Pipeline (Dat Cfg Window)

/-- The block a grid point leaves, at an index. -/
theorem out_apply (x0 : Vec FV S1024x1024 .f32) (x1 x2 x3 x4 : Vec FV S1x1024x256 .i32) (x5 : Vec FV S1024x128 .f32) (x6 : Vec FV S1x1024 .f32) (r j : Fin 1024) :
    (show S1024x1024.Idx → EReal from out0_7 x0 x1 x2 x3 x4 x5 x6) (ix2 r j)
      = normed (mixed (fun k => x0 (ix2 r k)) (x5 (ix2 r 0)) (x5 (ix2 r 1)) (fun c => x1 (ix3 0 r c)) (fun c => x2 (ix3 0 r c))
          (fun c => x3 (ix3 0 r c)) (fun c => x4 (ix3 0 r c))) (fun k => x6 (ix2 0 k)) j := by
  unfold out0_7
  rw [View.canon_cons_unit_lit _ _ _ (by decide)]
  refine (pay_apply _ _ _ _ _ _ _ _ r j).trans ?_
  rw [View.ld_unit_lit _ _ (by decide), View.ld_unit_lit _ _ (by decide), View.ld_unit_lit _ _ (by decide), View.ld_unit_lit _ _ (by decide),
    View.ld_unit_lit _ _ (by decide), View.ld_unit_lit _ _ (by decide)]
  have e0 : View.ld x5 r0_0 (ix2 r 0) = x5 (ix2 r 0) :=
    View.ld_unit_apply_of x5 _ _ _ _ _ fun a => match a with
      | ⟨0, _⟩ => by show r.val = 0 + r.val; omega
      | ⟨1, _⟩ => rfl
  have e1 : View.ld x5 r0_1 (ix2 r 0) = x5 (ix2 r 1) :=
    View.ld_unit_apply_of x5 _ _ _ _ _ fun a => match a with
      | ⟨0, _⟩ => by show r.val = 0 + r.val; omega
      | ⟨1, _⟩ => rfl
  rw [e0, e1]

abbrev Mem := (ℓ : Loc nD τ sig) → Buf (Elt FV) ℓ

variable (m : Mem)

/-- The point's own coordinate, and as an index map's word. -/
theorem point_lt (t : Fin cfg0.N) : t.val < 64 := lt_of_lt_of_eq t.isLt N_0
theorem crd_val (t : Fin cfg0.N) : (grid0.coords t 0).val = t.val := by
  have := Pipeline.Grid.coords_val (G := grid0) t 0 (S := 1) (B := 64) (by decide) rfl
  rw [this, Nat.div_one, Nat.mod_eq_of_lt (point_lt t)]
theorem point_word (t : Fin cfg0.N) : (BitVec.ofNat 32 (grid0.coords t 0).val).toNat = t.val := by
  have h := point_lt t
  rw [BitVec.toNat_ofNat, crd_val]; exact Nat.mod_eq_of_lt (by omega)

/-- The reshaped arrays the region finds. -/
theorem V0 (c : Dev nD) : V m c main_v0 = (shapeCast S2x65536x256 (m ((c : Thread nD τ).loc main_arg1)) shapeCasts_S131072x256_S2x65536x256) := by
  show StableHlo.after hostOps0 _ _ = _
  after_results_simp <;> rfl
theorem V1 (c : Dev nD) : V m c main_v1 = (shapeCast S2x65536x256 (m ((c : Thread nD τ).loc main_arg2)) shapeCasts_S131072x256_S2x65536x256) := by
  show StableHlo.after hostOps0 _ _ = _
  after_results_simp <;> rfl
theorem V2 (c : Dev nD) : V m c main_v2 = (shapeCast S1x1024 (m ((c : Thread nD τ).loc main_arg4)) shapeCasts_S1024_S1x1024) := by
  show StableHlo.after hostOps0 _ _ = _
  after_results_simp <;> rfl

theorem words_apply (x : IVec S131072x256 32) (k : Fin 2) (r : Fin 65536) (c : Fin 256) :
    (show S2x65536x256.Idx → BitVec 32 from shapeCast S2x65536x256 x shapeCasts_S131072x256_S2x65536x256) (ix3 k r c)
      = x (ix2 ⟨k.val * 65536 + r.val, by omega⟩ c) := by
  pointwise
theorem gain_apply (x : FVec FV S1024 .f32) (k : Fin 1024) :
    (show S1x1024.Idx → EReal from shapeCast S1x1024 x shapeCasts_S1024_S1x1024) (ix2 0 k) = x (ix1 k) := by
  pointwise

theorem iblk0_apply (c : Dev nD) (t : Fin cfg0.N) (i j : Fin 1024) :
    (show S1024x1024.Idx → EReal from iblk m c 0 t) (ix2 i j)
      = m ((c : Thread nD τ).loc main_arg0) (ix2 ⟨t.val * 1024 + i.val, by have := point_lt t; omega⟩ j) := by
  show V m c main_arg0 _ = _
  rw [V_main_arg0]
  refine congrArg (m ((c : Thread nD τ).loc main_arg0)) (funext fun a => ?_)
  match a with
  | ⟨0, _⟩ =>
    refine Fin.ext ((show _ = (BitVec.ofNat 32 (grid0.coords t 0).val).toNat * 1024 + 1 * i.val from rfl).trans ?_)
    rw [point_word, Nat.one_mul]; rfl
  | ⟨1, _⟩ => exact Fin.ext (show 0 * 1024 + 1 * j.val = j.val by omega)

theorem iblk5_apply (c : Dev nD) (t : Fin cfg0.N) (i : Fin 1024) (j : Fin 128) :
    (show S1024x128.Idx → EReal from iblk m c 5 t) (ix2 i j)
      = m ((c : Thread nD τ).loc main_arg3) (ix2 ⟨t.val * 1024 + i.val, by have := point_lt t; omega⟩ j) := by
  show V m c main_arg3 _ = _
  rw [V_main_arg3]
  refine congrArg (m ((c : Thread nD τ).loc main_arg3)) (funext fun a => ?_)
  match a with
  | ⟨0, _⟩ =>
    refine Fin.ext ((show _ = (BitVec.ofNat 32 (grid0.coords t 0).val).toNat * 1024 + 1 * i.val from rfl).trans ?_)
    rw [point_word, Nat.one_mul]; rfl
  | ⟨1, _⟩ => exact Fin.ext (show 0 * 128 + 1 * j.val = j.val by omega)

theorem iblk6_apply (c : Dev nD) (t : Fin cfg0.N) (k : Fin 1024) :
    (show S1x1024.Idx → EReal from iblk m c 6 t) (ix2 0 k) = m ((c : Thread nD τ).loc main_arg4) (ix1 k) := by
  show V m c main_v2 _ = _
  rw [V2]
  refine Eq.trans (congrArg (shapeCast S1x1024 (m ((c : Thread nD τ).loc main_arg4)) shapeCasts_S1024_S1x1024) (funext fun a => ?_))
    (gain_apply (m ((c : Thread nD τ).loc main_arg4)) k)
  match a with
  | ⟨0, _⟩ => exact Fin.ext (show 0 * 1 + 1 * 0 = 0 by omega)
  | ⟨1, _⟩ => exact Fin.ext (show 0 * 1024 + 1 * k.val = k.val by omega)

theorem iblk1_apply (c : Dev nD) (t : Fin cfg0.N) (i : Fin 1024) (j : Fin 256) :
    (show S1x1024x256.Idx → BitVec 32 from iblk m c 1 t) (ix3 0 i j)
      = m ((c : Thread nD τ).loc main_arg1) (ix2 ⟨t.val * 1024 + i.val, by have := point_lt t; omega⟩ j) := by
  have ht := point_lt t
  show V m c main_v0 _ = _
  rw [V0]
  refine (congrArg (shapeCast S2x65536x256 (m ((c : Thread nD τ).loc main_arg1)) shapeCasts_S131072x256_S2x65536x256)
    (show _ = ix3 (0 : Fin 2) (⟨t.val * 1024 + i.val, by omega⟩ : Fin 65536) j from funext fun a => ?_)).trans
    ((words_apply (m ((c : Thread nD τ).loc main_arg1)) _ _ _).trans (FinalRef.word_eq (m ((c : Thread nD τ).loc main_arg1)) _ _ _ _ ?_ rfl))
  · match a with
    | ⟨0, _⟩ => exact Fin.ext (show 0 * 1 + 1 * 0 = 0 by omega)
    | ⟨1, _⟩ =>
      refine Fin.ext ((show _ = (BitVec.ofNat 32 (grid0.coords t 0).val).toNat * 1024 + 1 * i.val from rfl).trans ?_)
      rw [point_word, Nat.one_mul]; rfl
    | ⟨2, _⟩ => exact Fin.ext (show 0 * 256 + 1 * j.val = j.val by omega)
  · show 0 * 65536 + (t.val * 1024 + i.val) = _
    omega

theorem iblk2_apply (c : Dev nD) (t : Fin cfg0.N) (i : Fin 1024) (j : Fin 256) :
    (show S1x1024x256.Idx → BitVec 32 from iblk m c 2 t) (ix3 0 i j)
      = m ((c : Thread nD τ).loc main_arg2) (ix2 ⟨t.val * 1024 + i.val, by have := point_lt t; omega⟩ j) := by
  have ht := point_lt t
  show V m c main_v1 _ = _
  rw [V1]
  refine (congrArg (shapeCast S2x65536x256 (m ((c : Thread nD τ).loc main_arg2)) shapeCasts_S131072x256_S2x65536x256)
    (show _ = ix3 (0 : Fin 2) (⟨t.val * 1024 + i.val, by omega⟩ : Fin 65536) j from funext fun a => ?_)).trans
    ((words_apply (m ((c : Thread nD τ).loc main_arg2)) _ _ _).trans (FinalRef.word_eq (m ((c : Thread nD τ).loc main_arg2)) _ _ _ _ ?_ rfl))
  · match a with
    | ⟨0, _⟩ => exact Fin.ext (show 0 * 1 + 1 * 0 = 0 by omega)
    | ⟨1, _⟩ =>
      refine Fin.ext ((show _ = (BitVec.ofNat 32 (grid0.coords t 0).val).toNat * 1024 + 1 * i.val from rfl).trans ?_)
      rw [point_word, Nat.one_mul]; rfl
    | ⟨2, _⟩ => exact Fin.ext (show 0 * 256 + 1 * j.val = j.val by omega)
  · show 0 * 65536 + (t.val * 1024 + i.val) = _
    omega

theorem iblk3_apply (c : Dev nD) (t : Fin cfg0.N) (i : Fin 1024) (j : Fin 256) :
    (show S1x1024x256.Idx → BitVec 32 from iblk m c 3 t) (ix3 0 i j)
      = m ((c : Thread nD τ).loc main_arg1) (ix2 ⟨65536 + (t.val * 1024 + i.val), by have := point_lt t; omega⟩ j) := by
  have ht := point_lt t
  show V m c main_v0 _ = _
  rw [V0]
  refine (congrArg (shapeCast S2x65536x256 (m ((c : Thread nD τ).loc main_arg1)) shapeCasts_S131072x256_S2x65536x256)
    (show _ = ix3 (1 : Fin 2) (⟨t.val * 1024 + i.val, by omega⟩ : Fin 65536) j from funext fun a => ?_)).trans
    ((words_apply (m ((c : Thread nD τ).loc main_arg1)) _ _ _).trans (FinalRef.word_eq (m ((c : Thread nD τ).loc main_arg1)) _ _ _ _ ?_ rfl))
  · match a with
    | ⟨0, _⟩ => exact Fin.ext (show 1 * 1 + 1 * 0 = 1 by omega)
    | ⟨1, _⟩ =>
      refine Fin.ext ((show _ = (BitVec.ofNat 32 (grid0.coords t 0).val).toNat * 1024 + 1 * i.val from rfl).trans ?_)
      rw [point_word, Nat.one_mul]; rfl
    | ⟨2, _⟩ => exact Fin.ext (show 0 * 256 + 1 * j.val = j.val by omega)
  · show 1 * 65536 + (t.val * 1024 + i.val) = _
    omega

theorem iblk4_apply (c : Dev nD) (t : Fin cfg0.N) (i : Fin 1024) (j : Fin 256) :
    (show S1x1024x256.Idx → BitVec 32 from iblk m c 4 t) (ix3 0 i j)
      = m ((c : Thread nD τ).loc main_arg2) (ix2 ⟨65536 + (t.val * 1024 + i.val), by have := point_lt t; omega⟩ j) := by
  have ht := point_lt t
  show V m c main_v1 _ = _
  rw [V1]
  refine (congrArg (shapeCast S2x65536x256 (m ((c : Thread nD τ).loc main_arg2)) shapeCasts_S131072x256_S2x65536x256)
    (show _ = ix3 (1 : Fin 2) (⟨t.val * 1024 + i.val, by omega⟩ : Fin 65536) j from funext fun a => ?_)).trans
    ((words_apply (m ((c : Thread nD τ).loc main_arg2)) _ _ _).trans (FinalRef.word_eq (m ((c : Thread nD τ).loc main_arg2)) _ _ _ _ ?_ rfl))
  · match a with
    | ⟨0, _⟩ => exact Fin.ext (show 1 * 1 + 1 * 0 = 1 by omega)
    | ⟨1, _⟩ =>
      refine Fin.ext ((show _ = (BitVec.ofNat 32 (grid0.coords t 0).val).toNat * 1024 + 1 * i.val from rfl).trans ?_)
      rw [point_word, Nat.one_mul]; rfl
    | ⟨2, _⟩ => exact Fin.ext (show 0 * 256 + 1 * j.val = j.val by omega)
  · show 1 * 65536 + (t.val * 1024 + i.val) = _
    omega

/-- One token's row of the result. -/
def wanted (c : Dev nD) (r : Fin 65536) (j : Fin 1024) : EReal :=
  normed (mixed (fun k => m ((c : Thread nD τ).loc main_arg0) (ix2 r k)) (m ((c : Thread nD τ).loc main_arg3) (ix2 r 0)) (m ((c : Thread nD τ).loc main_arg3) (ix2 r 1))
      (fun d => m ((c : Thread nD τ).loc main_arg1) (ix2 ⟨r.val, by omega⟩ d)) (fun d => m ((c : Thread nD τ).loc main_arg2) (ix2 ⟨r.val, by omega⟩ d))
      (fun d => m ((c : Thread nD τ).loc main_arg1) (ix2 ⟨65536 + r.val, by omega⟩ d)) (fun d => m ((c : Thread nD τ).loc main_arg2) (ix2 ⟨65536 + r.val, by omega⟩ d)))
    (fun k => m ((c : Thread nD τ).loc main_arg4) (ix1 k)) j

theorem wanted_at (c : Dev nD) (t : Fin cfg0.N) (i j : Fin 1024) :
    (show S1024x1024.Idx → EReal from out0_7 (iblk m c 0 t) (iblk m c 1 t) (iblk m c 2 t) (iblk m c 3 t) (iblk m c 4 t) (iblk m c 5 t) (iblk m c 6 t)) (ix2 i j)
      = wanted m c ⟨t.val * 1024 + i.val, by have := point_lt t; omega⟩ j := by
  refine (out_apply _ _ _ _ _ _ _ i j).trans ?_
  unfold wanted
  refine normed_congr (mixed_congr (funext fun k => iblk0_apply m c t i k) (iblk5_apply m c t i 0) (iblk5_apply m c t i 1)
    (funext fun d => iblk1_apply m c t i d) (funext fun d => iblk2_apply m c t i d) (funext fun d => iblk3_apply m c t i d)
    (funext fun d => iblk4_apply m c t i d)) (funext fun k => iblk6_apply m c t k) j

/-- The whole result. -/
def result (c : Dev nD) : Buf (Elt FV) ((c : Thread nD τ).loc main_v3) := fun i : S65536x1024.Idx => wanted m c (i 0) (i 1)

/-- Where a block's row sits in the result. -/
theorem emb7 (t : Fin cfg0.N) (y : S1024x1024.Idx) :
    (show S65536x1024.Idx from ((cfg0.win 7).blk t).view.emb y)
      = ix2 ⟨t.val * 1024 + (y 0).val, by have := point_lt t; have : (y 0).val < 1024 := (y 0).isLt; omega⟩ (y 1) := by
  funext a
  match a with
  | ⟨0, _⟩ =>
    refine Fin.ext ((show _ = (0#32 + BitVec.ofNat 32 (grid0.coords t 0).val).toNat * 1024 + 1 * (y 0).val from rfl).trans ?_)
    rw [BitVec.zero_add, point_word, Nat.one_mul]; rfl
  | ⟨1, _⟩ => exact Fin.ext (show 0 * 1024 + 1 * (y 1).val = (y 1).val by omega)

theorem arr7 (c : Dev nD) : (dats m 0 c).arrAt (7 : Fin 8) cfg0.N = result m c := by
  refine (dats m 0 c).arrAt_eq_of_cover (7 : Fin 8) (result m c) (fun t _ => ?_) (fun i => ?_)
  · refine (Cert.Kernel3Ideal.Value.flushed7 m c t).trans (funext fun (y : S1024x1024.Idx) => ?_)
    show (show S1024x1024.Idx → EReal from out0_7 (iblk m c 0 t) (iblk m c 1 t) (iblk m c 2 t) (iblk m c 3 t) (iblk m c 4 t) (iblk m c 5 t) (iblk m c 6 t)) y
      = result m c (show S65536x1024.Idx from ((cfg0.win 7).blk t).view.emb y)
    rw [emb7 t y]
    refine (congrArg (show S1024x1024.Idx → EReal from out0_7 (iblk m c 0 t) (iblk m c 1 t) (iblk m c 2 t) (iblk m c 3 t) (iblk m c 4 t) (iblk m c 5 t) (iblk m c 6 t))
      (ValueIdx.eq_ix2 (n0 := 1024) (n1 := 1024) y)).trans ?_
    exact wanted_at m c t (y 0) (y 1)
  · have h0 : ((show S65536x1024.Idx from i) 0).val < 65536 := ((show S65536x1024.Idx from i) 0).isLt
    let t : Fin cfg0.N := ⟨((show S65536x1024.Idx from i) 0).val / 1024, lt_of_lt_of_eq (show _ < 64 by omega) N_0.symm⟩
    let y : S1024x1024.Idx := ix2 ⟨((show S65536x1024.Idx from i) 0).val % 1024, Nat.mod_lt _ (by decide)⟩ ((show S65536x1024.Idx from i) 1)
    refine ⟨t, flush0_7 t, ?_⟩
    have e : ((cfg0.win 7).blk t).view.emb y = i := by
      refine (emb7 t y).trans (funext fun a => ?_)
      match a with
      | ⟨0, _⟩ =>
        refine Fin.ext ?_
        show ((show S65536x1024.Idx from i) 0).val / 1024 * 1024 + ((show S65536x1024.Idx from i) 0).val % 1024 = ((show S65536x1024.Idx from i) 0).val
        omega
      | ⟨1, _⟩ => rfl
    exact e ▸ ((cfg0.win 7).blk t).view.emb_mem_set y

end Cert.Proof.Final

end
-- ==== Proof.FinalMain.lean ====
/- The last kernel's claims: its frames at either floats, its reference's, and that the two end with equal results. -/
module

public import proofs.«01_k».proof.Defs
public import proofs.«01_k».proof.Proof.FinalValue
public import proofs.«01_k».proof.Proof.Gen.Kernel3.Frame
public import proofs.«01_k».proof.Proof.Gen.Reference3Ideal.Run

@[expose] public section

set_option maxRecDepth 16384

noncomputable section

namespace Cert.Proof.Final

open Idealize.ShloMosaic Idealize.ShloMosaic.TcCoe Idealize.SL Idealize.SL.Sem

theorem frame_bits : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run Cert.Reference3Ideal.defs _ _).mono (fun r hr => ⟨fun c => (hr c).2, sem_eq_zero_of_no_sems (by decide) r.2⟩)
    (Cert.Reference3Ideal.Value.run (F := Idealize.ShloMosaic.Ideal) m g)

section
open Cert.Kernel3Ideal

/-- The reference's result on the kernel's arguments is the kernel's. -/
theorem reference_eq (m : Mem) (c : Dev nD) : FinalRef.outcome (m (c.tc.loc main_arg0)) (m (c.tc.loc main_arg1)) (m (c.tc.loc main_arg2))
    (m (c.tc.loc main_arg3)) (m (c.tc.loc main_arg4)) = result m c := by
  refine funext fun (i : S65536x1024.Idx) => ?_
  refine (congrArg _ (ValueIdx.eq_ix2 (n0 := 65536) (n1 := 1024) i)).trans ?_
  exact FinalRef.outcome_apply _ _ _ _ _ (i 0) (i 1)
end

/-- The fused last step is the residual, the weighted rows and the norm. -/
theorem value : Cert.algebraic_Kernel3Ideal_Reference3Ideal := fun m g m' g' _ hm => by
  refine ⟨result m, ?_, ?_⟩
  · exact (θ_run Cert.Kernel3Ideal.defs _ _).mono (fun _ h c => ⟨(h c).1.trans (arr7 m c), (h c).2⟩)
      (Cert.Kernel3Ideal.Value.run_blocks m g)
  · refine (θ_run Cert.Reference3Ideal.defs _ _).mono (fun _ hr c => ?_)
      (Cert.Reference3Ideal.Value.run (F := Idealize.ShloMosaic.Ideal) m' g')
    obtain ⟨e0, e1, e2, e3, e4⟩ := hm c
    refine ⟨(hr c).1.trans ((FinalRef.res_eq m' c).trans ?_), (hr c).2⟩
    rw [e0, e1, e2, e3, e4]
    exact reference_eq m c

end Cert.Proof.Final

end
-- ==== Proof.lean ====
module

public import proofs.«01_k».proof.Defs
public import proofs.«01_k».proof.Proof.Main
public import proofs.«01_k».proof.Proof.Rows
public import proofs.«01_k».proof.Proof.FfnMain
public import proofs.«01_k».proof.Proof.FinalMain
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_positions_name_rows
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_chunks_name_experts
public import Idealize.ShloMosaic.Lib.Bf16Pair

@[expose] public section

noncomputable section

namespace Cert.Proof

open Idealize.ShloMosaic Idealize.SL Idealize.SL.Sem

/-! ## The frames: one run of the gather, at either floats -/

theorem quiescent_kernel : Cert.quiescent_Kernel := fun m g h =>
  (θ_run Cert.Kernel.defs _ _).mono (fun _ hr => ⟨fun c => (hr.1 c).2, hr.2⟩)
    (Gather.run_main (F := Bits) m g (Gather.Iv_lt m _ h))

theorem quiescent_kernelIdeal : Cert.quiescent_KernelIdeal := fun m g h =>
  (θ_run Cert.KernelIdeal.defs _ _).mono (fun _ hr => ⟨fun c => (hr.1 c).2, hr.2⟩)
    (Gather.run_main (F := Ideal) m g (Gather.Iv_lt m _ h))

theorem quiescent_referenceIdeal : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-! ## The value: the rows the workers leave are the rows plain indexing reads -/

theorem algebraic : Cert.algebraic_KernelIdeal_ReferenceIdeal := fun m g m' g' h hm =>
  ⟨fun c => Gather.Rv (F := Ideal) m c,
    (θ_run Cert.KernelIdeal.defs _ _).mono (fun _ hr => hr.1) (Gather.run_main (F := Ideal) m g (Gather.Iv_lt m _ h)),
    (θ_run Cert.ReferenceIdeal.defs _ _).mono
      (fun _ hr c => ⟨(hr c).1.trans (by
          rw [(hm c).1, (hm c).2.1, (hm c).2.2]
          exact (Gather.Rv_eq (F := Ideal) m c (h c)).symm), (hr c).2⟩)
      (Cert.ReferenceIdeal.Value.run (F := Ideal) m' g')⟩

/-! ## The experts: the packed pairs read and written by the kernel are bf16 rows -/

theorem preserves_experts : Cert.preserves_Kernel2_Kernel2Ideal :=
  ⟨IdealRules.bf16_pair.statement Cert.Kernel2Ideal.S1024x256 Cert.Kernel2Ideal.S512x256,
    IdealRules.bf16_pack.statement Cert.Kernel2Ideal.S512x256⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_positions_name_rows.Gen.facts, Cert.Pre_chunks_name_experts.Gen.facts,
    quiescent_kernel, quiescent_kernelIdeal, quiescent_referenceIdeal, fun m g _ => quiescent_referenceIdeal m g trivial,
    Ffn.frame_bits, Ffn.frame_ideal, Ffn.frame_reference, fun m g _ => Ffn.frame_reference m g trivial,
    Final.frame_bits, Final.frame_ideal, Final.frame_reference,
    trivial, algebraic, preserves_experts, Ffn.value, trivial, Final.value⟩

end Cert.Proof

end
